-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_nonzero_rows [hKernelIdeal : Cert.KernelIdeal.Facts] [hReferenceIdeal : Cert.ReferenceIdeal.Facts] [hOn_nonzero_rows : Cert.On_nonzero_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨0, ![]⟩ : Shape).Idx, (Cert.On_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v7) i = v0 c i)
          ∧ (∀ i : (⟨2, ![1024, 100000]⟩ : Shape).Idx, (Cert.On_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v3_0) i = v1 c i)
          ∧ (∀ i : (⟨0, ![]⟩ : Shape).Idx, (Cert.On_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.KernelIdeal.nD Cert.KernelIdeal.τ).loc Cert.KernelIdeal.main_v10) i = v2 c i)
          ∧ (∀ i : (⟨0, ![]⟩ : Shape).Idx, (Cert.On_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 i = 1#1 → r.2.mem ((c.tc : Thread Cert.KernelIdeal.nD Cert.KernelIdeal.τ).loc Cert.KernelIdeal.main_v13) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨0, ![]⟩ : Shape).Idx, (Cert.On_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v617) i = v0 c i)
          ∧ (∀ i : (⟨2, ![1024, 100000]⟩ : Shape).Idx, (Cert.On_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v13) i = v1 c i)
          ∧ (∀ i : (⟨0, ![]⟩ : Shape).Idx, (Cert.On_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.ReferenceIdeal.nD Cert.ReferenceIdeal.τ).loc Cert.ReferenceIdeal.main_v619) i = v2 c i)
          ∧ (∀ i : (⟨0, ![]⟩ : Shape).Idx, (Cert.On_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 i = 1#1 → r.2.mem ((c.tc : Thread Cert.ReferenceIdeal.nD Cert.ReferenceIdeal.τ).loc Cert.ReferenceIdeal.main_v621) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_nonzero_rows : Cert.On_nonzero_rows.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_nonzero_rows (hKernelIdeal := hKernelIdeal) (hReferenceIdeal := hReferenceIdeal) (hOn_nonzero_rows := hOn_nonzero_rows)
-- ==== On_nonzero_rows.lean ====
abbrev S1024x16 : Shape := ⟨2, ![1024, 16]⟩
abbrev S1024 : Shape := ⟨1, ![1024]⟩
abbrev S100000x16 : Shape := ⟨2, ![100000, 16]⟩
abbrev S_ : Shape := ⟨0, ![]⟩
abbrev S100000 : Shape := ⟨1, ![100000]⟩
abbrev S1024x1 : Shape := ⟨2, ![1024, 1]⟩
abbrev S1x100000 : Shape := ⟨2, ![1, 100000]⟩
abbrev S1024x100000 : Shape := ⟨2, ![1024, 100000]⟩

class Facts : Prop where
  reducesTo_S1024x16_S1024_d1 : S1024x16.ReducesTo [1] S1024
  h_S_ : 0 < S_.numel
  bcast_S_S1024 : S_.BroadcastsInDim S1024 (![] : Fin 0 → Fin S1024.rank)
  reducesTo_S100000x16_S100000_d1 : S100000x16.ReducesTo [1] S100000
  bcast_S_S100000 : S_.BroadcastsInDim S100000 (![] : Fin 0 → Fin S100000.rank)
  bcast_S1024_S1024x1_0 : S1024.BroadcastsInDim S1024x1 (![0] : Fin 1 → Fin S1024x1.rank)
  bcast_S100000_S1x100000_1 : S100000.BroadcastsInDim S1x100000 (![1] : Fin 1 → Fin S1x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)

variable [Facts]

def fn {F : FTy → Type} [FloatOps F] (main_arg0 : FVec F S1024x16 .f32) (main_arg1 : IVec S1024 32) (main_arg2 : FVec F S100000x16 .f32) : IVec S_ 1 × IVec S1024x100000 1 × IVec S_ 1 × IVec S_ 1 :=
  let main_v0 : FVec F S1024x16 .f32 := mulf main_arg0 main_arg0
  let main_cst : FVec F S_ .f32 := constant S_ .f32 0x00000000#32
  let main_v1 : FVec F S1024 .f32 := (fun x v => Host.reduceAdd x v reducesTo_S1024x16_S1024_d1 h_S_) main_v0 main_cst
  let main_cst_0 : FVec F S_ .f32 := constant S_ .f32 0x00000000#32
  let main_v2 : FVec F S1024 .f32 := broadcastInDim S1024 ![] bcast_S_S1024 main_cst_0
  let main_v3 : IVec S1024 1 := cmpf .ogt main_v1 main_v2
  let main_v4 : FVec F S100000x16 .f32 := mulf main_arg2 main_arg2
  let main_cst_1 : FVec F S_ .f32 := constant S_ .f32 0x00000000#32
  let main_v5 : FVec F S100000 .f32 := (fun x v => Host.reduceAdd x v reducesTo_S100000x16_S100000_d1 h_S_) main_v4 main_cst_1
  let main_cst_2 : FVec F S_ .f32 := constant S_ .f32 0x00000000#32
  let main_v6 : FVec F S100000 .f32 := broadcastInDim S100000 ![] bcast_S_S100000 main_cst_2
  let main_v7 : IVec S100000 1 := cmpf .ogt main_v5 main_v6
  let main_v8 : IVec S1024x1 1 := broadcastInDim S1024x1 ![0] bcast_S1024_S1024x1_0 main_v3
  let main_v9 : IVec S1x100000 1 := broadcastInDim S1x100000 ![1] bcast_S100000_S1x100000_1 main_v7
  let main_v10 : IVec S1024x100000 1 := broadcastInDim S1024x100000 ![0, 1] bcast_S1024x1_S1024x100000_0_1 main_v8
  let main_v11 : IVec S1024x100000 1 := broadcastInDim S1024x100000 ![0, 1] bcast_S1x100000_S1024x100000_0_1 main_v9
  let main_v12 : IVec S1024x100000 1 := andi main_v10 main_v11
  let main_c : IVec S_ 1 := constantI S_ 1 0#1
  let main_c_3 : IVec S_ 1 := constantI S_ 1 0#1
  let main_c_4 : IVec S_ 1 := constantI S_ 1 0#1
  (main_c, main_v12, main_c_3, main_c_4)
-- ==== Kernel.lean ====
abbrev S1024x16 : Shape := ⟨2, ![1024, 16]⟩
abbrev S1024 : Shape := ⟨1, ![1024]⟩
abbrev S100000x16 : Shape := ⟨2, ![100000, 16]⟩
abbrev S16x100000 : Shape := ⟨2, ![16, 100000]⟩
abbrev S1024x1 : Shape := ⟨2, ![1024, 1]⟩
abbrev S1024x100000 : Shape := ⟨2, ![1024, 100000]⟩
abbrev S1x3 : Shape := ⟨2, ![1, 3]⟩
abbrev S32x16 : Shape := ⟨2, ![32, 16]⟩
abbrev S32x1 : Shape := ⟨2, ![32, 1]⟩
abbrev S32x100000 : Shape := ⟨2, ![32, 100000]⟩
abbrev S32 : Shape := ⟨1, ![32]⟩
abbrev S16x32768 : Shape := ⟨2, ![16, 32768]⟩
abbrev S32768 : Shape := ⟨1, ![32768]⟩
abbrev S1x32768 : Shape := ⟨2, ![1, 32768]⟩
abbrev S32x32768 : Shape := ⟨2, ![32, 32768]⟩
abbrev S16x1696 : Shape := ⟨2, ![16, 1696]⟩
abbrev S1696 : Shape := ⟨1, ![1696]⟩
abbrev S1x1696 : Shape := ⟨2, ![1, 1696]⟩
abbrev S32x1696 : Shape := ⟨2, ![32, 1696]⟩
abbrev S32x4096 : Shape := ⟨2, ![32, 4096]⟩
abbrev S1 : Shape := ⟨1, ![1]⟩
abbrev S1x1 : Shape := ⟨2, ![1, 1]⟩
abbrev S_ : Shape := ⟨0, ![]⟩

abbrev nBuf : Space → Nat
  | .hbm => 21
  | .vmem => 8
  | .smem => 0
  | _ => 0

abbrev bufTy : (tb : Table) → Fin (tcTables nBuf tb) → BufTy
  | .hbm, ⟨0, _⟩ => ⟨S1024x16, .f32⟩
  | .hbm, ⟨1, _⟩ => ⟨S1024, .i32⟩
  | .hbm, ⟨2, _⟩ => ⟨S100000x16, .f32⟩
  | .hbm, ⟨3, _⟩ => ⟨S16x100000, .f32⟩
  | .hbm, ⟨4, _⟩ => ⟨S1024, .f32⟩
  | .hbm, ⟨5, _⟩ => ⟨S1024x1, .f32⟩
  | .hbm, ⟨6, _⟩ => ⟨S1024x100000, .f32⟩
  | .hbm, ⟨7, _⟩ => ⟨S1x3, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S32x16, .f32⟩
  | .local _ .vmem, ⟨1, _⟩ => ⟨S32x16, .f32⟩
  | .local _ .vmem, ⟨2, _⟩ => ⟨S32x1, .f32⟩
  | .local _ .vmem, ⟨3, _⟩ => ⟨S32x1, .f32⟩
  | .local _ .vmem, ⟨4, _⟩ => ⟨S16x100000, .f32⟩
  | .local _ .vmem, ⟨5, _⟩ => ⟨S32x100000, .f32⟩
  | .local _ .vmem, ⟨6, _⟩ => ⟨S32x100000, .f32⟩
  | .local _ .vmem, ⟨7, _⟩ => ⟨S1x3, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c3_i32 : BitVec 32 := 3#32
  let v7 : BitVec 32 := Scalar.addi c0_i32 c3_i32
  let c1_i32 : BitVec 32 := 1#32
  ⟨c0_i32, v7, c1_i32⟩
def k0_off1 (k0_t1 : Fin k0_t1_loop.trips) : Fin 2 → Nat :=
  let c0_448 : Index := 0#32
  let c0_i32 : BitVec 32 := 0#32
  let c1_i32 : BitVec 32 := 1#32
  let arg6 : BitVec 32 := Scf.iv c0_i32 c1_i32 k0_t1
  let c32768_i32 : BitVec 32 := 32768#32
  let v2179 : BitVec 32 := Scalar.muli arg6 c32768_i32
  let v2180 : Index := Scalar.indexCast v2179
  ![0, v2180.toNat]
def k0_off2 (k0_t1 : Fin k0_t1_loop.trips) : Fin 2 → Nat :=
  let c0_452 : Index := 0#32
  let c0_i32 : BitVec 32 := 0#32
  let c1_i32 : BitVec 32 := 1#32
  let arg6 : BitVec 32 := Scf.iv c0_i32 c1_i32 k0_t1
  let c32768_i32_451 : BitVec 32 := 32768#32
  let v2190 : BitVec 32 := Scalar.muli arg6 c32768_i32_451
  let v2191 : Index := Scalar.indexCast v2190
  ![0, v2191.toNat]
@[reducible] def k0_t2_loop : Scf.Loop 32 :=
  let c0_i32_16 : BitVec 32 := 0#32
  let c11_i32 : BitVec 32 := 11#32
  let v33 : BitVec 32 := Scalar.addi c0_i32_16 c11_i32
  let c1_i32_17 : BitVec 32 := 1#32
  ⟨c0_i32_16, v33, c1_i32_17⟩
@[reducible] def k0_t3_loop : Scf.Loop 32 :=
  let c0_i32_451 : BitVec 32 := 0#32
  let c3_i32_452 : BitVec 32 := 3#32
  let v2186 : BitVec 32 := Scalar.addi c0_i32_451 c3_i32_452
  let c1_i32_453 : BitVec 32 := 1#32
  ⟨c0_i32_451, v2186, c1_i32_453⟩
def k0_off3 (k0_t3 : Fin k0_t3_loop.trips) : Fin 2 → Nat :=
  let c0_460 : Index := 0#32
  let c0_i32_451 : BitVec 32 := 0#32
  let c1_i32_453 : BitVec 32 := 1#32
  let arg12 : BitVec 32 := Scf.iv c0_i32_451 c1_i32_453 k0_t3
  let c32768_i32 : BitVec 32 := 32768#32
  let v2212 : BitVec 32 := Scalar.muli arg12 c32768_i32
  let v2213 : Index := Scalar.indexCast v2212
  ![0, v2213.toNat]
@[reducible] def k0_t4_loop : Scf.Loop 32 :=
  let c0_i32_21 : BitVec 32 := 0#32
  let c3_i32_22 : BitVec 32 := 3#32
  let v42 : BitVec 32 := Scalar.addi c0_i32_21 c3_i32_22
  let c1_i32_23 : BitVec 32 := 1#32
  ⟨c0_i32_21, v42, c1_i32_23⟩
def k0_off4 (k0_t4 : Fin k0_t4_loop.trips) : Fin 2 → Nat :=
  let c0_448 : Index := 0#32
  let c0_i32_21 : BitVec 32 := 0#32
  let c1_i32_23 : BitVec 32 := 1#32
  let arg6 : BitVec 32 := Scf.iv c0_i32_21 c1_i32_23 k0_t4
  let c32768_i32 : BitVec 32 := 32768#32
  let v2179 : BitVec 32 := Scalar.muli arg6 c32768_i32
  let v2180 : Index := Scalar.indexCast v2179
  ![0, v2180.toNat]
@[reducible] def k0_t5_loop : Scf.Loop 32 :=
  let c0_i32_48 : BitVec 32 := 0#32
  let c3_i32_49 : BitVec 32 := 3#32
  let v90 : BitVec 32 := Scalar.addi c0_i32_48 c3_i32_49
  let c1_i32_50 : BitVec 32 := 1#32
  ⟨c0_i32_48, v90, c1_i32_50⟩
def k0_off5 (k0_t5 : Fin k0_t5_loop.trips) : Fin 2 → Nat :=
  let c0_448 : Index := 0#32
  let c0_i32_48 : BitVec 32 := 0#32
  let c1_i32_50 : BitVec 32 := 1#32
  let arg6 : BitVec 32 := Scf.iv c0_i32_48 c1_i32_50 k0_t5
  let c32768_i32 : BitVec 32 := 32768#32
  let v2179 : BitVec 32 := Scalar.muli arg6 c32768_i32
  let v2180 : Index := Scalar.indexCast v2179
  ![0, v2180.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x100000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x100000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1024x16 : Shape := ⟨2, ![1024, 16]⟩
abbrev S1024 : Shape := ⟨1, ![1024]⟩
abbrev S100000x16 : Shape := ⟨2, ![100000, 16]⟩
abbrev S_ : Shape := ⟨0, ![]⟩
abbrev S1024x1 : Shape := ⟨2, ![1024, 1]⟩
abbrev S100000 : Shape := ⟨1, ![100000]⟩
abbrev S100000x1 : Shape := ⟨2, ![100000, 1]⟩
abbrev S16x100000 : Shape := ⟨2, ![16, 100000]⟩
abbrev S1024x100000 : Shape := ⟨2, ![1024, 100000]⟩
abbrev S1024x4096 : Shape := ⟨2, ![1024, 4096]⟩
abbrev S1024x2 : Shape := ⟨2, ![1024, 2]⟩

abbrev nBuf : Space → Nat
  | .hbm => 812
  | .vmem => 0
  | .smem => 0
  | _ => 0

abbrev hbmTy0_0 (i : Nat) : BufTy := match i % 128 with
  | 0 => ⟨S1024x16, .f32⟩
  | 1 => ⟨S1024, .i32⟩
  | 2 => ⟨S100000x16, .f32⟩
  | 3 => ⟨S1024x16, .f32⟩
  | 4 => ⟨S_, .f32⟩
  | 5 => ⟨S1024, .f32⟩
  | 6 => ⟨S1024x1, .f32⟩
  | 7 => ⟨S1024x1, .f32⟩
  | 8 => ⟨S1024x16, .f32⟩
  | 9 => ⟨S1024x16, .f32⟩
  | 10 => ⟨S100000x16, .f32⟩
  | 11 => ⟨S_, .f32⟩
  | 12 => ⟨S100000, .f32⟩
  | 13 => ⟨S100000x1, .f32⟩
  | 14 => ⟨S100000x1, .f32⟩
  | 15 => ⟨S100000x16, .f32⟩
  | 16 => ⟨S100000x16, .f32⟩
  | 17 => ⟨S16x100000, .f32⟩
  | 18 => ⟨S1024x100000, .f32⟩
  | 19 => ⟨S1024x4096, .f32⟩
  | 20 => ⟨S1024x4096, .i32⟩
  | 21 => ⟨S_, .f32⟩
  | 22 => ⟨S1024, .f32⟩
  | 23 => ⟨S_, .f32⟩
  | 24 => ⟨S1024, .f32⟩
  | 25 => ⟨S1024, .f32⟩
  | 26 => ⟨S1024x1, .f32⟩
  | 27 => ⟨S1024x4096, .f32⟩
  | 28 => ⟨S1024x4096, .f32⟩
  | 29 => ⟨S1024x4096, .f32⟩
  | 30 => ⟨S1024, .i32⟩
  | 31 => ⟨S_, .i32⟩
  | 32 => ⟨S1024, .i32⟩
  | 33 => ⟨S1024, .i1⟩
  | 34 => ⟨S_, .i32⟩
  | 35 => ⟨S1024, .i32⟩
  | 36 => ⟨S1024, .i32⟩
  | 37 => ⟨S1024, .i32⟩
  | 38 => ⟨S_, .i32⟩
  | 39 => ⟨S1024, .i32⟩
  | 40 => ⟨S1024, .i1⟩
  | 41 => ⟨S_, .i32⟩
  | 42 => ⟨S1024, .i32⟩
  | 43 => ⟨S1024, .i32⟩
  | 44 => ⟨S1024, .i32⟩
  | 45 => ⟨S1024x1, .i32⟩
  | 46 => ⟨S1024x1, .i32⟩
  | 47 => ⟨S1024x2, .i32⟩
  | 48 => ⟨S_, .f32⟩
  | 49 => ⟨S1024, .f32⟩
  | 50 => ⟨S1024x4096, .f32⟩
  | 51 => ⟨S_, .f32⟩
  | 52 => ⟨S1024, .f32⟩
  | 53 => ⟨S1024x1, .f32⟩
  | 54 => ⟨S1024x4096, .f32⟩
  | 55 => ⟨S1024x4096, .f32⟩
  | 56 => ⟨S_, .f32⟩
  | 57 => ⟨S1024x4096, .f32⟩
  | 58 => ⟨S1024x4096, .f32⟩
  | 59 => ⟨S1024x4096, .f32⟩
  | 60 => ⟨S1024x4096, .f32⟩
  | 61 => ⟨S_, .f32⟩
  | 62 => ⟨S1024, .f32⟩
  | 63 => ⟨S1024, .f32⟩
  | 64 => ⟨S_, .f32⟩
  | 65 => ⟨S1024, .f32⟩
  | 66 => ⟨S1024, .i1⟩
  | 67 => ⟨S1024, .f32⟩
  | 68 => ⟨S_, .f32⟩
  | 69 => ⟨S1024, .f32⟩
  | 70 => ⟨S1024, .f32⟩
  | 71 => ⟨S_, .f32⟩
  | 72 => ⟨S1024, .f32⟩
  | 73 => ⟨S1024, .f32⟩
  | 74 => ⟨S_, .f32⟩
  | 75 => ⟨S1024, .f32⟩
  | 76 => ⟨S1024, .f32⟩
  | 77 => ⟨S1024, .f32⟩
  | 78 => ⟨S1024x1, .f32⟩
  | 79 => ⟨S1024x4096, .f32⟩
  | 80 => ⟨S1024x4096, .f32⟩
  | 81 => ⟨S1024x4096, .f32⟩
  | 82 => ⟨S1024, .i32⟩
  | 83 => ⟨S_, .i32⟩
  | 84 => ⟨S1024, .i32⟩
  | 85 => ⟨S1024, .i1⟩
  | 86 => ⟨S_, .i32⟩
  | 87 => ⟨S1024, .i32⟩
  | 88 => ⟨S1024, .i32⟩
  | 89 => ⟨S1024, .i32⟩
  | 90 => ⟨S_, .i32⟩
  | 91 => ⟨S1024, .i32⟩
  | 92 => ⟨S1024, .i1⟩
  | 93 => ⟨S_, .i32⟩
  | 94 => ⟨S1024, .i32⟩
  | 95 => ⟨S1024, .i32⟩
  | 96 => ⟨S1024, .i32⟩
  | 97 => ⟨S1024x1, .i32⟩
  | 98 => ⟨S1024x1, .i32⟩
  | 99 => ⟨S1024x2, .i32⟩
  | 100 => ⟨S_, .f32⟩
  | 101 => ⟨S1024, .f32⟩
  | 102 => ⟨S1024x4096, .f32⟩
  | 103 => ⟨S_, .f32⟩
  | 104 => ⟨S1024, .f32⟩
  | 105 => ⟨S1024x1, .f32⟩
  | 106 => ⟨S1024x4096, .f32⟩
  | 107 => ⟨S1024x4096, .f32⟩
  | 108 => ⟨S_, .f32⟩
  | 109 => ⟨S1024x4096, .f32⟩
  | 110 => ⟨S1024x4096, .f32⟩
  | 111 => ⟨S1024x4096, .f32⟩
  | 112 => ⟨S1024x4096, .f32⟩
  | 113 => ⟨S_, .f32⟩
  | 114 => ⟨S1024, .f32⟩
  | 115 => ⟨S1024, .f32⟩
  | 116 => ⟨S_, .f32⟩
  | 117 => ⟨S1024, .f32⟩
  | 118 => ⟨S1024, .i1⟩
  | 119 => ⟨S1024, .f32⟩
  | 120 => ⟨S_, .f32⟩
  | 121 => ⟨S1024, .f32⟩
  | 122 => ⟨S1024, .f32⟩
  | 123 => ⟨S_, .f32⟩
  | 124 => ⟨S1024, .f32⟩
  | 125 => ⟨S1024, .f32⟩
  | 126 => ⟨S_, .f32⟩
  | 127 => ⟨S1024, .f32⟩
  | _ => ⟨S1024x16, .f32⟩

abbrev hbmTy0_1 (i : Nat) : BufTy := match i % 128 with
  | 0 => ⟨S1024, .f32⟩
  | 1 => ⟨S1024, .f32⟩
  | 2 => ⟨S1024x1, .f32⟩
  | 3 => ⟨S1024x4096, .f32⟩
  | 4 => ⟨S1024x4096, .f32⟩
  | 5 => ⟨S1024x4096, .f32⟩
  | 6 => ⟨S1024, .i32⟩
  | 7 => ⟨S_, .i32⟩
  | 8 => ⟨S1024, .i32⟩
  | 9 => ⟨S1024, .i1⟩
  | 10 => ⟨S_, .i32⟩
  | 11 => ⟨S1024, .i32⟩
  | 12 => ⟨S1024, .i32⟩
  | 13 => ⟨S1024, .i32⟩
  | 14 => ⟨S_, .i32⟩
  | 15 => ⟨S1024, .i32⟩
  | 16 => ⟨S1024, .i1⟩
  | 17 => ⟨S_, .i32⟩
  | 18 => ⟨S1024, .i32⟩
  | 19 => ⟨S1024, .i32⟩
  | 20 => ⟨S1024, .i32⟩
  | 21 => ⟨S1024x1, .i32⟩
  | 22 => ⟨S1024x1, .i32⟩
  | 23 => ⟨S1024x2, .i32⟩
  | 24 => ⟨S_, .f32⟩
  | 25 => ⟨S1024, .f32⟩
  | 26 => ⟨S1024x4096, .f32⟩
  | 27 => ⟨S_, .f32⟩
  | 28 => ⟨S1024, .f32⟩
  | 29 => ⟨S1024x1, .f32⟩
  | 30 => ⟨S1024x4096, .f32⟩
  | 31 => ⟨S1024x4096, .f32⟩
  | 32 => ⟨S_, .f32⟩
  | 33 => ⟨S1024x4096, .f32⟩
  | 34 => ⟨S1024x4096, .f32⟩
  | 35 => ⟨S1024x4096, .f32⟩
  | 36 => ⟨S1024x4096, .f32⟩
  | 37 => ⟨S_, .f32⟩
  | 38 => ⟨S1024, .f32⟩
  | 39 => ⟨S1024, .f32⟩
  | 40 => ⟨S_, .f32⟩
  | 41 => ⟨S1024, .f32⟩
  | 42 => ⟨S1024, .i1⟩
  | 43 => ⟨S1024, .f32⟩
  | 44 => ⟨S_, .f32⟩
  | 45 => ⟨S1024, .f32⟩
  | 46 => ⟨S1024, .f32⟩
  | 47 => ⟨S_, .f32⟩
  | 48 => ⟨S1024, .f32⟩
  | 49 => ⟨S1024, .f32⟩
  | 50 => ⟨S_, .f32⟩
  | 51 => ⟨S1024, .f32⟩
  | 52 => ⟨S1024, .f32⟩
  | 53 => ⟨S1024, .f32⟩
  | 54 => ⟨S1024x1, .f32⟩
  | 55 => ⟨S1024x4096, .f32⟩
  | 56 => ⟨S1024x4096, .f32⟩
  | 57 => ⟨S1024x4096, .f32⟩
  | 58 => ⟨S1024, .i32⟩
  | 59 => ⟨S_, .i32⟩
  | 60 => ⟨S1024, .i32⟩
  | 61 => ⟨S1024, .i1⟩
  | 62 => ⟨S_, .i32⟩
  | 63 => ⟨S1024, .i32⟩
  | 64 => ⟨S1024, .i32⟩
  | 65 => ⟨S1024, .i32⟩
  | 66 => ⟨S_, .i32⟩
  | 67 => ⟨S1024, .i32⟩
  | 68 => ⟨S1024, .i1⟩
  | 69 => ⟨S_, .i32⟩
  | 70 => ⟨S1024, .i32⟩
  | 71 => ⟨S1024, .i32⟩
  | 72 => ⟨S1024, .i32⟩
  | 73 => ⟨S1024x1, .i32⟩
  | 74 => ⟨S1024x1, .i32⟩
  | 75 => ⟨S1024x2, .i32⟩
  | 76 => ⟨S_, .f32⟩
  | 77 => ⟨S1024, .f32⟩
  | 78 => ⟨S1024x4096, .f32⟩
  | 79 => ⟨S_, .f32⟩
  | 80 => ⟨S1024, .f32⟩
  | 81 => ⟨S1024x1, .f32⟩
  | 82 => ⟨S1024x4096, .f32⟩
  | 83 => ⟨S1024x4096, .f32⟩
  | 84 => ⟨S_, .f32⟩
  | 85 => ⟨S1024x4096, .f32⟩
  | 86 => ⟨S1024x4096, .f32⟩
  | 87 => ⟨S1024x4096, .f32⟩
  | 88 => ⟨S1024x4096, .f32⟩
  | 89 => ⟨S_, .f32⟩
  | 90 => ⟨S1024, .f32⟩
  | 91 => ⟨S1024, .f32⟩
  | 92 => ⟨S_, .f32⟩
  | 93 => ⟨S1024, .f32⟩
  | 94 => ⟨S1024, .i1⟩
  | 95 => ⟨S1024, .f32⟩
  | 96 => ⟨S_, .f32⟩
  | 97 => ⟨S1024, .f32⟩
  | 98 => ⟨S1024, .f32⟩
  | 99 => ⟨S_, .f32⟩
  | 100 => ⟨S1024, .f32⟩
  | 101 => ⟨S1024, .f32⟩
  | 102 => ⟨S_, .f32⟩
  | 103 => ⟨S1024, .f32⟩
  | 104 => ⟨S1024, .f32⟩
  | 105 => ⟨S1024, .f32⟩
  | 106 => ⟨S1024x1, .f32⟩
  | 107 => ⟨S1024x4096, .f32⟩
  | 108 => ⟨S1024x4096, .f32⟩
  | 109 => ⟨S1024x4096, .f32⟩
  | 110 => ⟨S1024, .i32⟩
  | 111 => ⟨S_, .i32⟩
  | 112 => ⟨S1024, .i32⟩
  | 113 => ⟨S1024, .i1⟩
  | 114 => ⟨S_, .i32⟩
  | 115 => ⟨S1024, .i32⟩
  | 116 => ⟨S1024, .i32⟩
  | 117 => ⟨S1024, .i32⟩
  | 118 => ⟨S_, .i32⟩
  | 119 => ⟨S1024, .i32⟩
  | 120 => ⟨S1024, .i1⟩
  | 121 => ⟨S_, .i32⟩
  | 122 => ⟨S1024, .i32⟩
  | 123 => ⟨S1024, .i32⟩
  | 124 => ⟨S1024, .i32⟩
  | 125 => ⟨S1024x1, .i32⟩
  | 126 => ⟨S1024x1, .i32⟩
  | 127 => ⟨S1024x2, .i32⟩
  | _ => ⟨S1024x16, .f32⟩

abbrev hbmTy0_2 (i : Nat) : BufTy := match i % 128 with
  | 0 => ⟨S_, .f32⟩
  | 1 => ⟨S1024, .f32⟩
  | 2 => ⟨S1024x4096, .f32⟩
  | 3 => ⟨S_, .f32⟩
  | 4 => ⟨S1024, .f32⟩
  | 5 => ⟨S1024x1, .f32⟩
  | 6 => ⟨S1024x4096, .f32⟩
  | 7 => ⟨S1024x4096, .f32⟩
  | 8 => ⟨S_, .f32⟩
  | 9 => ⟨S1024x4096, .f32⟩
  | 10 => ⟨S1024x4096, .f32⟩
  | 11 => ⟨S1024x4096, .f32⟩
  | 12 => ⟨S1024x4096, .f32⟩
  | 13 => ⟨S_, .f32⟩
  | 14 => ⟨S1024, .f32⟩
  | 15 => ⟨S1024, .f32⟩
  | 16 => ⟨S_, .f32⟩
  | 17 => ⟨S1024, .f32⟩
  | 18 => ⟨S1024, .i1⟩
  | 19 => ⟨S1024, .f32⟩
  | 20 => ⟨S_, .f32⟩
  | 21 => ⟨S1024, .f32⟩
  | 22 => ⟨S1024, .f32⟩
  | 23 => ⟨S_, .f32⟩
  | 24 => ⟨S1024, .f32⟩
  | 25 => ⟨S1024, .f32⟩
  | 26 => ⟨S_, .f32⟩
  | 27 => ⟨S1024, .f32⟩
  | 28 => ⟨S1024, .f32⟩
  | 29 => ⟨S1024, .f32⟩
  | 30 => ⟨S1024x1, .f32⟩
  | 31 => ⟨S1024x4096, .f32⟩
  | 32 => ⟨S1024x4096, .f32⟩
  | 33 => ⟨S1024x4096, .f32⟩
  | 34 => ⟨S1024, .i32⟩
  | 35 => ⟨S_, .i32⟩
  | 36 => ⟨S1024, .i32⟩
  | 37 => ⟨S1024, .i1⟩
  | 38 => ⟨S_, .i32⟩
  | 39 => ⟨S1024, .i32⟩
  | 40 => ⟨S1024, .i32⟩
  | 41 => ⟨S1024, .i32⟩
  | 42 => ⟨S_, .i32⟩
  | 43 => ⟨S1024, .i32⟩
  | 44 => ⟨S1024, .i1⟩
  | 45 => ⟨S_, .i32⟩
  | 46 => ⟨S1024, .i32⟩
  | 47 => ⟨S1024, .i32⟩
  | 48 => ⟨S1024, .i32⟩
  | 49 => ⟨S1024x1, .i32⟩
  | 50 => ⟨S1024x1, .i32⟩
  | 51 => ⟨S1024x2, .i32⟩
  | 52 => ⟨S_, .f32⟩
  | 53 => ⟨S1024, .f32⟩
  | 54 => ⟨S1024x4096, .f32⟩
  | 55 => ⟨S_, .f32⟩
  | 56 => ⟨S1024, .f32⟩
  | 57 => ⟨S1024x1, .f32⟩
  | 58 => ⟨S1024x4096, .f32⟩
  | 59 => ⟨S1024x4096, .f32⟩
  | 60 => ⟨S_, .f32⟩
  | 61 => ⟨S1024x4096, .f32⟩
  | 62 => ⟨S1024x4096, .f32⟩
  | 63 => ⟨S1024x4096, .f32⟩
  | 64 => ⟨S1024x4096, .f32⟩
  | 65 => ⟨S_, .f32⟩
  | 66 => ⟨S1024, .f32⟩
  | 67 => ⟨S1024, .f32⟩
  | 68 => ⟨S_, .f32⟩
  | 69 => ⟨S1024, .f32⟩
  | 70 => ⟨S1024, .i1⟩
  | 71 => ⟨S1024, .f32⟩
  | 72 => ⟨S_, .f32⟩
  | 73 => ⟨S1024, .f32⟩
  | 74 => ⟨S1024, .f32⟩
  | 75 => ⟨S_, .f32⟩
  | 76 => ⟨S1024, .f32⟩
  | 77 => ⟨S1024, .f32⟩
  | 78 => ⟨S_, .f32⟩
  | 79 => ⟨S1024, .f32⟩
  | 80 => ⟨S1024, .f32⟩
  | 81 => ⟨S1024, .f32⟩
  | 82 => ⟨S1024x1, .f32⟩
  | 83 => ⟨S1024x4096, .f32⟩
  | 84 => ⟨S1024x4096, .f32⟩
  | 85 => ⟨S1024x4096, .f32⟩
  | 86 => ⟨S1024, .i32⟩
  | 87 => ⟨S_, .i32⟩
  | 88 => ⟨S1024, .i32⟩
  | 89 => ⟨S1024, .i1⟩
  | 90 => ⟨S_, .i32⟩
  | 91 => ⟨S1024, .i32⟩
  | 92 => ⟨S1024, .i32⟩
  | 93 => ⟨S1024, .i32⟩
  | 94 => ⟨S_, .i32⟩
  | 95 => ⟨S1024, .i32⟩
  | 96 => ⟨S1024, .i1⟩
  | 97 => ⟨S_, .i32⟩
  | 98 => ⟨S1024, .i32⟩
  | 99 => ⟨S1024, .i32⟩
  | 100 => ⟨S1024, .i32⟩
  | 101 => ⟨S1024x1, .i32⟩
  | 102 => ⟨S1024x1, .i32⟩
  | 103 => ⟨S1024x2, .i32⟩
  | 104 => ⟨S_, .f32⟩
  | 105 => ⟨S1024, .f32⟩
  | 106 => ⟨S1024x4096, .f32⟩
  | 107 => ⟨S_, .f32⟩
  | 108 => ⟨S1024, .f32⟩
  | 109 => ⟨S1024x1, .f32⟩
  | 110 => ⟨S1024x4096, .f32⟩
  | 111 => ⟨S1024x4096, .f32⟩
  | 112 => ⟨S_, .f32⟩
  | 113 => ⟨S1024x4096, .f32⟩
  | 114 => ⟨S1024x4096, .f32⟩
  | 115 => ⟨S1024x4096, .f32⟩
  | 116 => ⟨S1024x4096, .f32⟩
  | 117 => ⟨S_, .f32⟩
  | 118 => ⟨S1024, .f32⟩
  | 119 => ⟨S1024, .f32⟩
  | 120 => ⟨S_, .f32⟩
  | 121 => ⟨S1024, .f32⟩
  | 122 => ⟨S1024, .i1⟩
  | 123 => ⟨S1024, .f32⟩
  | 124 => ⟨S_, .f32⟩
  | 125 => ⟨S1024, .f32⟩
  | 126 => ⟨S1024, .f32⟩
  | 127 => ⟨S_, .f32⟩
  | _ => ⟨S1024x16, .f32⟩

abbrev hbmTy0_3 (i : Nat) : BufTy := match i % 128 with
  | 0 => ⟨S1024, .f32⟩
  | 1 => ⟨S1024, .f32⟩
  | 2 => ⟨S_, .f32⟩
  | 3 => ⟨S1024, .f32⟩
  | 4 => ⟨S1024, .f32⟩
  | 5 => ⟨S1024, .f32⟩
  | 6 => ⟨S1024x1, .f32⟩
  | 7 => ⟨S1024x4096, .f32⟩
  | 8 => ⟨S1024x4096, .f32⟩
  | 9 => ⟨S1024x4096, .f32⟩
  | 10 => ⟨S1024, .i32⟩
  | 11 => ⟨S_, .i32⟩
  | 12 => ⟨S1024, .i32⟩
  | 13 => ⟨S1024, .i1⟩
  | 14 => ⟨S_, .i32⟩
  | 15 => ⟨S1024, .i32⟩
  | 16 => ⟨S1024, .i32⟩
  | 17 => ⟨S1024, .i32⟩
  | 18 => ⟨S_, .i32⟩
  | 19 => ⟨S1024, .i32⟩
  | 20 => ⟨S1024, .i1⟩
  | 21 => ⟨S_, .i32⟩
  | 22 => ⟨S1024, .i32⟩
  | 23 => ⟨S1024, .i32⟩
  | 24 => ⟨S1024, .i32⟩
  | 25 => ⟨S1024x1, .i32⟩
  | 26 => ⟨S1024x1, .i32⟩
  | 27 => ⟨S1024x2, .i32⟩
  | 28 => ⟨S_, .f32⟩
  | 29 => ⟨S1024, .f32⟩
  | 30 => ⟨S1024x4096, .f32⟩
  | 31 => ⟨S_, .f32⟩
  | 32 => ⟨S1024, .f32⟩
  | 33 => ⟨S1024x1, .f32⟩
  | 34 => ⟨S1024x4096, .f32⟩
  | 35 => ⟨S1024x4096, .f32⟩
  | 36 => ⟨S_, .f32⟩
  | 37 => ⟨S1024x4096, .f32⟩
  | 38 => ⟨S1024x4096, .f32⟩
  | 39 => ⟨S1024x4096, .f32⟩
  | 40 => ⟨S1024x4096, .f32⟩
  | 41 => ⟨S_, .f32⟩
  | 42 => ⟨S1024, .f32⟩
  | 43 => ⟨S1024, .f32⟩
  | 44 => ⟨S_, .f32⟩
  | 45 => ⟨S1024, .f32⟩
  | 46 => ⟨S1024, .i1⟩
  | 47 => ⟨S1024, .f32⟩
  | 48 => ⟨S_, .f32⟩
  | 49 => ⟨S1024, .f32⟩
  | 50 => ⟨S1024, .f32⟩
  | 51 => ⟨S_, .f32⟩
  | 52 => ⟨S1024, .f32⟩
  | 53 => ⟨S1024, .f32⟩
  | 54 => ⟨S_, .f32⟩
  | 55 => ⟨S1024, .f32⟩
  | 56 => ⟨S1024, .f32⟩
  | 57 => ⟨S1024, .f32⟩
  | 58 => ⟨S1024x1, .f32⟩
  | 59 => ⟨S1024x4096, .f32⟩
  | 60 => ⟨S1024x4096, .f32⟩
  | 61 => ⟨S1024x4096, .f32⟩
  | 62 => ⟨S1024, .i32⟩
  | 63 => ⟨S_, .i32⟩
  | 64 => ⟨S1024, .i32⟩
  | 65 => ⟨S1024, .i1⟩
  | 66 => ⟨S_, .i32⟩
  | 67 => ⟨S1024, .i32⟩
  | 68 => ⟨S1024, .i32⟩
  | 69 => ⟨S1024, .i32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S1024x1, .i32⟩
  | 78 => ⟨S1024x1, .i32⟩
  | 79 => ⟨S1024x2, .i32⟩
  | 80 => ⟨S_, .f32⟩
  | 81 => ⟨S1024, .f32⟩
  | 82 => ⟨S1024x4096, .f32⟩
  | 83 => ⟨S_, .f32⟩
  | 84 => ⟨S1024, .f32⟩
  | 85 => ⟨S1024x1, .f32⟩
  | 86 => ⟨S1024x4096, .f32⟩
  | 87 => ⟨S1024x4096, .f32⟩
  | 88 => ⟨S_, .f32⟩
  | 89 => ⟨S1024x4096, .f32⟩
  | 90 => ⟨S1024x4096, .f32⟩
  | 91 => ⟨S1024x4096, .f32⟩
  | 92 => ⟨S1024x4096, .f32⟩
  | 93 => ⟨S_, .f32⟩
  | 94 => ⟨S1024, .f32⟩
  | 95 => ⟨S1024, .f32⟩
  | 96 => ⟨S_, .f32⟩
  | 97 => ⟨S1024, .f32⟩
  | 98 => ⟨S1024, .i1⟩
  | 99 => ⟨S1024, .f32⟩
  | 100 => ⟨S_, .f32⟩
  | 101 => ⟨S1024, .f32⟩
  | 102 => ⟨S1024, .f32⟩
  | 103 => ⟨S_, .f32⟩
  | 104 => ⟨S1024, .f32⟩
  | 105 => ⟨S1024, .f32⟩
  | 106 => ⟨S_, .f32⟩
  | 107 => ⟨S1024, .f32⟩
  | 108 => ⟨S1024, .f32⟩
  | 109 => ⟨S1024, .f32⟩
  | 110 => ⟨S1024x1, .f32⟩
  | 111 => ⟨S1024x4096, .f32⟩
  | 112 => ⟨S1024x4096, .f32⟩
  | 113 => ⟨S1024x4096, .f32⟩
  | 114 => ⟨S1024, .i32⟩
  | 115 => ⟨S_, .i32⟩
  | 116 => ⟨S1024, .i32⟩
  | 117 => ⟨S1024, .i1⟩
  | 118 => ⟨S_, .i32⟩
  | 119 => ⟨S1024, .i32⟩
  | 120 => ⟨S1024, .i32⟩
  | 121 => ⟨S1024, .i32⟩
  | 122 => ⟨S_, .i32⟩
  | 123 => ⟨S1024, .i32⟩
  | 124 => ⟨S1024, .i1⟩
  | 125 => ⟨S_, .i32⟩
  | 126 => ⟨S1024, .i32⟩
  | 127 => ⟨S1024, .i32⟩
  | _ => ⟨S1024x16, .f32⟩

abbrev hbmTy0_4 (i : Nat) : BufTy := match i % 128 with
  | 0 => ⟨S1024, .i32⟩
  | 1 => ⟨S1024x1, .i32⟩
  | 2 => ⟨S1024x1, .i32⟩
  | 3 => ⟨S1024x2, .i32⟩
  | 4 => ⟨S_, .f32⟩
  | 5 => ⟨S1024, .f32⟩
  | 6 => ⟨S1024x4096, .f32⟩
  | 7 => ⟨S_, .f32⟩
  | 8 => ⟨S1024, .f32⟩
  | 9 => ⟨S1024x1, .f32⟩
  | 10 => ⟨S1024x4096, .f32⟩
  | 11 => ⟨S1024x4096, .f32⟩
  | 12 => ⟨S_, .f32⟩
  | 13 => ⟨S1024x4096, .f32⟩
  | 14 => ⟨S1024x4096, .f32⟩
  | 15 => ⟨S1024x4096, .f32⟩
  | 16 => ⟨S1024x4096, .f32⟩
  | 17 => ⟨S_, .f32⟩
  | 18 => ⟨S1024, .f32⟩
  | 19 => ⟨S1024, .f32⟩
  | 20 => ⟨S_, .f32⟩
  | 21 => ⟨S1024, .f32⟩
  | 22 => ⟨S1024, .i1⟩
  | 23 => ⟨S1024, .f32⟩
  | 24 => ⟨S_, .f32⟩
  | 25 => ⟨S1024, .f32⟩
  | 26 => ⟨S1024, .f32⟩
  | 27 => ⟨S_, .f32⟩
  | 28 => ⟨S1024, .f32⟩
  | 29 => ⟨S1024, .f32⟩
  | 30 => ⟨S_, .f32⟩
  | 31 => ⟨S1024, .f32⟩
  | 32 => ⟨S1024, .f32⟩
  | 33 => ⟨S1024, .f32⟩
  | 34 => ⟨S1024x1, .f32⟩
  | 35 => ⟨S1024x4096, .f32⟩
  | 36 => ⟨S1024x4096, .f32⟩
  | 37 => ⟨S1024x4096, .f32⟩
  | 38 => ⟨S1024, .i32⟩
  | 39 => ⟨S_, .i32⟩
  | 40 => ⟨S1024, .i32⟩
  | 41 => ⟨S1024, .i1⟩
  | 42 => ⟨S_, .i32⟩
  | 43 => ⟨S1024, .i32⟩
  | 44 => ⟨S1024, .i32⟩
  | 45 => ⟨S1024, .i32⟩
  | 46 => ⟨S_, .i32⟩
  | 47 => ⟨S1024, .i32⟩
  | 48 => ⟨S1024, .i1⟩
  | 49 => ⟨S_, .i32⟩
  | 50 => ⟨S1024, .i32⟩
  | 51 => ⟨S1024, .i32⟩
  | 52 => ⟨S1024, .i32⟩
  | 53 => ⟨S1024x1, .i32⟩
  | 54 => ⟨S1024x1, .i32⟩
  | 55 => ⟨S1024x2, .i32⟩
  | 56 => ⟨S_, .f32⟩
  | 57 => ⟨S1024, .f32⟩
  | 58 => ⟨S1024x4096, .f32⟩
  | 59 => ⟨S_, .f32⟩
  | 60 => ⟨S1024, .f32⟩
  | 61 => ⟨S1024x1, .f32⟩
  | 62 => ⟨S1024x4096, .f32⟩
  | 63 => ⟨S1024x4096, .f32⟩
  | 64 => ⟨S_, .f32⟩
  | 65 => ⟨S1024x4096, .f32⟩
  | 66 => ⟨S1024x4096, .f32⟩
  | 67 => ⟨S1024x4096, .f32⟩
  | 68 => ⟨S1024x4096, .f32⟩
  | 69 => ⟨S_, .f32⟩
  | 70 => ⟨S1024, .f32⟩
  | 71 => ⟨S1024, .f32⟩
  | 72 => ⟨S_, .f32⟩
  | 73 => ⟨S1024, .f32⟩
  | 74 => ⟨S1024, .i1⟩
  | 75 => ⟨S1024, .f32⟩
  | 76 => ⟨S_, .f32⟩
  | 77 => ⟨S1024, .f32⟩
  | 78 => ⟨S1024, .f32⟩
  | 79 => ⟨S_, .f32⟩
  | 80 => ⟨S1024, .f32⟩
  | 81 => ⟨S1024, .f32⟩
  | 82 => ⟨S_, .f32⟩
  | 83 => ⟨S1024, .f32⟩
  | 84 => ⟨S1024, .f32⟩
  | 85 => ⟨S1024, .f32⟩
  | 86 => ⟨S1024x1, .f32⟩
  | 87 => ⟨S1024x4096, .f32⟩
  | 88 => ⟨S1024x4096, .f32⟩
  | 89 => ⟨S1024x4096, .f32⟩
  | 90 => ⟨S1024, .i32⟩
  | 91 => ⟨S_, .i32⟩
  | 92 => ⟨S1024, .i32⟩
  | 93 => ⟨S1024, .i1⟩
  | 94 => ⟨S_, .i32⟩
  | 95 => ⟨S1024, .i32⟩
  | 96 => ⟨S1024, .i32⟩
  | 97 => ⟨S1024, .i32⟩
  | 98 => ⟨S_, .i32⟩
  | 99 => ⟨S1024, .i32⟩
  | 100 => ⟨S1024, .i1⟩
  | 101 => ⟨S_, .i32⟩
  | 102 => ⟨S1024, .i32⟩
  | 103 => ⟨S1024, .i32⟩
  | 104 => ⟨S1024, .i32⟩
  | 105 => ⟨S1024x1, .i32⟩
  | 106 => ⟨S1024x1, .i32⟩
  | 107 => ⟨S1024x2, .i32⟩
  | 108 => ⟨S_, .f32⟩
  | 109 => ⟨S1024, .f32⟩
  | 110 => ⟨S1024x4096, .f32⟩
  | 111 => ⟨S_, .f32⟩
  | 112 => ⟨S1024, .f32⟩
  | 113 => ⟨S1024x1, .f32⟩
  | 114 => ⟨S1024x4096, .f32⟩
  | 115 => ⟨S1024x4096, .f32⟩
  | 116 => ⟨S_, .f32⟩
  | 117 => ⟨S1024x4096, .f32⟩
  | 118 => ⟨S1024x4096, .f32⟩
  | 119 => ⟨S1024x4096, .f32⟩
  | 120 => ⟨S1024x4096, .f32⟩
  | 121 => ⟨S_, .f32⟩
  | 122 => ⟨S1024, .f32⟩
  | 123 => ⟨S1024, .f32⟩
  | 124 => ⟨S_, .f32⟩
  | 125 => ⟨S1024, .f32⟩
  | 126 => ⟨S1024, .i1⟩
  | 127 => ⟨S1024, .f32⟩
  | _ => ⟨S1024x16, .f32⟩

abbrev hbmTy0_5 (i : Nat) : BufTy := match i % 128 with
  | 0 => ⟨S_, .f32⟩
  | 1 => ⟨S1024, .f32⟩
  | 2 => ⟨S1024, .f32⟩
  | 3 => ⟨S_, .f32⟩
  | 4 => ⟨S1024, .f32⟩
  | 5 => ⟨S1024, .f32⟩
  | 6 => ⟨S_, .f32⟩
  | 7 => ⟨S1024, .f32⟩
  | 8 => ⟨S1024, .f32⟩
  | 9 => ⟨S1024, .f32⟩
  | 10 => ⟨S1024x1, .f32⟩
  | 11 => ⟨S1024x4096, .f32⟩
  | 12 => ⟨S1024x4096, .f32⟩
  | 13 => ⟨S1024x4096, .f32⟩
  | 14 => ⟨S1024, .i32⟩
  | 15 => ⟨S_, .i32⟩
  | 16 => ⟨S1024, .i32⟩
  | 17 => ⟨S1024, .i1⟩
  | 18 => ⟨S_, .i32⟩
  | 19 => ⟨S1024, .i32⟩
  | 20 => ⟨S1024, .i32⟩
  | 21 => ⟨S1024, .i32⟩
  | 22 => ⟨S_, .i32⟩
  | 23 => ⟨S1024, .i32⟩
  | 24 => ⟨S1024, .i1⟩
  | 25 => ⟨S_, .i32⟩
  | 26 => ⟨S1024, .i32⟩
  | 27 => ⟨S1024, .i32⟩
  | 28 => ⟨S1024, .i32⟩
  | 29 => ⟨S1024x1, .i32⟩
  | 30 => ⟨S1024x1, .i32⟩
  | 31 => ⟨S1024x2, .i32⟩
  | 32 => ⟨S_, .f32⟩
  | 33 => ⟨S1024, .f32⟩
  | 34 => ⟨S1024x4096, .f32⟩
  | 35 => ⟨S_, .f32⟩
  | 36 => ⟨S1024, .f32⟩
  | 37 => ⟨S1024x1, .f32⟩
  | 38 => ⟨S1024x4096, .f32⟩
  | 39 => ⟨S1024x4096, .f32⟩
  | 40 => ⟨S_, .f32⟩
  | 41 => ⟨S1024x4096, .f32⟩
  | 42 => ⟨S1024x4096, .f32⟩
  | 43 => ⟨S1024x4096, .f32⟩
  | 44 => ⟨S1024x4096, .f32⟩
  | 45 => ⟨S_, .f32⟩
  | 46 => ⟨S1024, .f32⟩
  | 47 => ⟨S1024, .f32⟩
  | 48 => ⟨S_, .f32⟩
  | 49 => ⟨S1024, .f32⟩
  | 50 => ⟨S1024, .i1⟩
  | 51 => ⟨S1024, .f32⟩
  | 52 => ⟨S_, .f32⟩
  | 53 => ⟨S1024, .f32⟩
  | 54 => ⟨S1024, .f32⟩
  | 55 => ⟨S_, .f32⟩
  | 56 => ⟨S1024, .f32⟩
  | 57 => ⟨S1024, .f32⟩
  | 58 => ⟨S_, .f32⟩
  | 59 => ⟨S1024, .f32⟩
  | 60 => ⟨S1024, .f32⟩
  | 61 => ⟨S1024, .f32⟩
  | 62 => ⟨S1024x1, .f32⟩
  | 63 => ⟨S1024x4096, .f32⟩
  | 64 => ⟨S1024x4096, .f32⟩
  | 65 => ⟨S_, .f32⟩
  | 66 => ⟨S1024, .f32⟩
  | 67 => ⟨S_, .f32⟩
  | 68 => ⟨S1024, .f32⟩
  | 69 => ⟨S1024, .f32⟩
  | 70 => ⟨S1024x1, .f32⟩
  | 71 => ⟨S1024x4096, .f32⟩
  | 72 => ⟨S1024x4096, .f32⟩
  | 73 => ⟨S1024x4096, .f32⟩
  | 74 => ⟨S_, .f32⟩
  | 75 => ⟨S1024, .f32⟩
  | 76 => ⟨S1024x1, .f32⟩
  | 77 => ⟨S1024x4096, .f32⟩
  | 78 => ⟨S1024x4096, .f32⟩
  | 79 => ⟨S1024x1, .f32⟩
  | 80 => ⟨S1024x4096, .f32⟩
  | 81 => ⟨S1024x4096, .f32⟩
  | 82 => ⟨S1024x4096, .f32⟩
  | 83 => ⟨S1024, .i32⟩
  | 84 => ⟨S_, .i32⟩
  | 85 => ⟨S1024, .i32⟩
  | 86 => ⟨S1024, .i1⟩
  | 87 => ⟨S_, .i32⟩
  | 88 => ⟨S1024, .i32⟩
  | 89 => ⟨S1024, .i32⟩
  | 90 => ⟨S1024, .i32⟩
  | 91 => ⟨S_, .i32⟩
  | 92 => ⟨S1024, .i32⟩
  | 93 => ⟨S1024, .i1⟩
  | 94 => ⟨S_, .i32⟩
  | 95 => ⟨S1024, .i32⟩
  | 96 => ⟨S1024, .i32⟩
  | 97 => ⟨S1024, .i32⟩
  | 98 => ⟨S1024x1, .i32⟩
  | 99 => ⟨S1024x1, .i32⟩
  | 100 => ⟨S1024x2, .i32⟩
  | 101 => ⟨S_, .f32⟩
  | 102 => ⟨S1024, .f32⟩
  | 103 => ⟨S1024x4096, .f32⟩
  | 104 => ⟨S_, .f32⟩
  | 105 => ⟨S1024, .f32⟩
  | 106 => ⟨S1024x1, .f32⟩
  | 107 => ⟨S1024x4096, .f32⟩
  | 108 => ⟨S1024x4096, .f32⟩
  | 109 => ⟨S_, .f32⟩
  | 110 => ⟨S1024x4096, .f32⟩
  | 111 => ⟨S1024x4096, .f32⟩
  | 112 => ⟨S1024x4096, .f32⟩
  | 113 => ⟨S1024x4096, .f32⟩
  | 114 => ⟨S_, .f32⟩
  | 115 => ⟨S1024, .f32⟩
  | 116 => ⟨S1024, .f32⟩
  | 117 => ⟨S1024, .i32⟩
  | 118 => ⟨S_, .i32⟩
  | 119 => ⟨S1024, .i32⟩
  | 120 => ⟨S1024, .i1⟩
  | 121 => ⟨S_, .i32⟩
  | 122 => ⟨S1024, .i32⟩
  | 123 => ⟨S1024, .i32⟩
  | 124 => ⟨S1024, .i32⟩
  | 125 => ⟨S_, .i32⟩
  | 126 => ⟨S1024, .i32⟩
  | 127 => ⟨S1024, .i1⟩
  | _ => ⟨S1024x16, .f32⟩

abbrev hbmTy0_6 (i : Nat) : BufTy := match i % 128 with
  | 0 => ⟨S_, .i32⟩
  | 1 => ⟨S1024, .i32⟩
  | 2 => ⟨S1024, .i32⟩
  | 3 => ⟨S1024, .i32⟩
  | 4 => ⟨S1024x1, .i32⟩
  | 5 => ⟨S1024x1, .i32⟩
  | 6 => ⟨S1024x2, .i32⟩
  | 7 => ⟨S1024, .f32⟩
  | 8 => ⟨S1024, .f32⟩
  | 9 => ⟨S_, .f32⟩
  | 10 => ⟨S1024, .f32⟩
  | 11 => ⟨S1024, .f32⟩
  | 12 => ⟨S1024, .f32⟩
  | 13 => ⟨S1024, .f32⟩
  | 14 => ⟨S1024x1, .f32⟩
  | 15 => ⟨S1024x4096, .f32⟩
  | 16 => ⟨S1024x4096, .f32⟩
  | 17 => ⟨S1024x1, .f32⟩
  | 18 => ⟨S_, .f32⟩
  | 19 => ⟨S1024x1, .f32⟩
  | 20 => ⟨S1024x1, .f32⟩
  | 21 => ⟨S1024x4096, .f32⟩
  | 22 => ⟨S1024x4096, .f32⟩
  | 23 => ⟨S1024x4096, .f32⟩
  | 24 => ⟨S_, .f32⟩
  | 25 => ⟨S1024, .f32⟩
  | 26 => ⟨S1024, .f32⟩
  | 27 => ⟨S_, .f32⟩
  | 28 => ⟨S1024, .f32⟩
  | 29 => ⟨S1024, .f32⟩
  | 30 => ⟨S1024, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | _ => ⟨S1024x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1024x16, .f32⟩

abbrev bufTy : (tb : Table) → Fin (tcTables nBuf tb) → BufTy
  | .hbm, ⟨i, _⟩ => hbmTy i
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_14 : Ref sig .tc := ⟨.hbm, 83, rfl⟩
abbrev main_v62 : Ref sig .tc := ⟨.hbm, 84, rfl⟩
abbrev main_v63 : Ref sig .tc := ⟨.hbm, 85, rfl⟩
abbrev main_c_15 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_16 : Ref sig .tc := ⟨.hbm, 90, rfl⟩
abbrev main_v67 : Ref sig .tc := ⟨.hbm, 91, rfl⟩
abbrev main_v68 : Ref sig .tc := ⟨.hbm, 92, rfl⟩
abbrev main_c_17 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_18 : Ref sig .tc := ⟨.hbm, 100, rfl⟩
abbrev main_v75 : Ref sig .tc := ⟨.hbm, 101, rfl⟩
abbrev main_v76 : Ref sig .tc := ⟨.hbm, 102, rfl⟩
abbrev main_cst_19 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_20 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_21 : Ref sig .tc := ⟨.hbm, 113, rfl⟩
abbrev main_v85 : Ref sig .tc := ⟨.hbm, 114, rfl⟩
abbrev main_v86 : Ref sig .tc := ⟨.hbm, 115, rfl⟩
abbrev main_cst_22 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_23 : Ref sig .tc := ⟨.hbm, 120, rfl⟩
abbrev main_v90 : Ref sig .tc := ⟨.hbm, 121, rfl⟩
abbrev main_v91 : Ref sig .tc := ⟨.hbm, 122, rfl⟩
abbrev main_cst_24 : Ref sig .tc := ⟨.hbm, 123, rfl⟩
abbrev main_v92 : Ref sig .tc := ⟨.hbm, 124, rfl⟩
abbrev main_v93 : Ref sig .tc := ⟨.hbm, 125, rfl⟩
abbrev main_cst_25 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_26 : Ref sig .tc := ⟨.hbm, 135, rfl⟩
abbrev main_v102 : Ref sig .tc := ⟨.hbm, 136, rfl⟩
abbrev main_v103 : Ref sig .tc := ⟨.hbm, 137, rfl⟩
abbrev main_c_27 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_28 : Ref sig .tc := ⟨.hbm, 142, rfl⟩
abbrev main_v107 : Ref sig .tc := ⟨.hbm, 143, rfl⟩
abbrev main_v108 : Ref sig .tc := ⟨.hbm, 144, rfl⟩
abbrev main_c_29 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_30 : Ref sig .tc := ⟨.hbm, 152, rfl⟩
abbrev main_v115 : Ref sig .tc := ⟨.hbm, 153, rfl⟩
abbrev main_v116 : Ref sig .tc := ⟨.hbm, 154, rfl⟩
abbrev main_cst_31 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_32 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_33 : Ref sig .tc := ⟨.hbm, 165, rfl⟩
abbrev main_v125 : Ref sig .tc := ⟨.hbm, 166, rfl⟩
abbrev main_v126 : Ref sig .tc := ⟨.hbm, 167, rfl⟩
abbrev main_cst_34 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_35 : Ref sig .tc := ⟨.hbm, 172, rfl⟩
abbrev main_v130 : Ref sig .tc := ⟨.hbm, 173, rfl⟩
abbrev main_v131 : Ref sig .tc := ⟨.hbm, 174, rfl⟩
abbrev main_cst_36 : Ref sig .tc := ⟨.hbm, 175, rfl⟩
abbrev main_v132 : Ref sig .tc := ⟨.hbm, 176, rfl⟩
abbrev main_v133 : Ref sig .tc := ⟨.hbm, 177, rfl⟩
abbrev main_cst_37 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_c_38 : Ref sig .tc := ⟨.hbm, 187, rfl⟩
abbrev main_v142 : Ref sig .tc := ⟨.hbm, 188, rfl⟩
abbrev main_v143 : Ref sig .tc := ⟨.hbm, 189, rfl⟩
abbrev main_c_39 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_c_40 : Ref sig .tc := ⟨.hbm, 194, rfl⟩
abbrev main_v147 : Ref sig .tc := ⟨.hbm, 195, rfl⟩
abbrev main_v148 : Ref sig .tc := ⟨.hbm, 196, rfl⟩
abbrev main_c_41 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_42 : Ref sig .tc := ⟨.hbm, 204, rfl⟩
abbrev main_v155 : Ref sig .tc := ⟨.hbm, 205, rfl⟩
abbrev main_v156 : Ref sig .tc := ⟨.hbm, 206, rfl⟩
abbrev main_cst_43 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_44 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_cst_45 : Ref sig .tc := ⟨.hbm, 217, rfl⟩
abbrev main_v165 : Ref sig .tc := ⟨.hbm, 218, rfl⟩
abbrev main_v166 : Ref sig .tc := ⟨.hbm, 219, rfl⟩
abbrev main_cst_46 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_cst_47 : Ref sig .tc := ⟨.hbm, 224, rfl⟩
abbrev main_v170 : Ref sig .tc := ⟨.hbm, 225, rfl⟩
abbrev main_v171 : Ref sig .tc := ⟨.hbm, 226, rfl⟩
abbrev main_cst_48 : Ref sig .tc := ⟨.hbm, 227, rfl⟩
abbrev main_v172 : Ref sig .tc := ⟨.hbm, 228, rfl⟩
abbrev main_v173 : Ref sig .tc := ⟨.hbm, 229, rfl⟩
abbrev main_cst_49 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_c_50 : Ref sig .tc := ⟨.hbm, 239, rfl⟩
abbrev main_v182 : Ref sig .tc := ⟨.hbm, 240, rfl⟩
abbrev main_v183 : Ref sig .tc := ⟨.hbm, 241, rfl⟩
abbrev main_c_51 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_c_52 : Ref sig .tc := ⟨.hbm, 246, rfl⟩
abbrev main_v187 : Ref sig .tc := ⟨.hbm, 247, rfl⟩
abbrev main_v188 : Ref sig .tc := ⟨.hbm, 248, rfl⟩
abbrev main_c_53 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_cst_54 : Ref sig .tc := ⟨.hbm, 256, rfl⟩
abbrev main_v195 : Ref sig .tc := ⟨.hbm, 257, rfl⟩
abbrev main_v196 : Ref sig .tc := ⟨.hbm, 258, rfl⟩
abbrev main_cst_55 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_cst_56 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_cst_57 : Ref sig .tc := ⟨.hbm, 269, rfl⟩
abbrev main_v205 : Ref sig .tc := ⟨.hbm, 270, rfl⟩
abbrev main_v206 : Ref sig .tc := ⟨.hbm, 271, rfl⟩
abbrev main_cst_58 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_cst_59 : Ref sig .tc := ⟨.hbm, 276, rfl⟩
abbrev main_v210 : Ref sig .tc := ⟨.hbm, 277, rfl⟩
abbrev main_v211 : Ref sig .tc := ⟨.hbm, 278, rfl⟩
abbrev main_cst_60 : Ref sig .tc := ⟨.hbm, 279, rfl⟩
abbrev main_v212 : Ref sig .tc := ⟨.hbm, 280, rfl⟩
abbrev main_v213 : Ref sig .tc := ⟨.hbm, 281, rfl⟩
abbrev main_cst_61 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_c_62 : Ref sig .tc := ⟨.hbm, 291, rfl⟩
abbrev main_v222 : Ref sig .tc := ⟨.hbm, 292, rfl⟩
abbrev main_v223 : Ref sig .tc := ⟨.hbm, 293, rfl⟩
abbrev main_c_63 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_c_64 : Ref sig .tc := ⟨.hbm, 298, rfl⟩
abbrev main_v227 : Ref sig .tc := ⟨.hbm, 299, rfl⟩
abbrev main_v228 : Ref sig .tc := ⟨.hbm, 300, rfl⟩
abbrev main_c_65 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_cst_66 : Ref sig .tc := ⟨.hbm, 308, rfl⟩
abbrev main_v235 : Ref sig .tc := ⟨.hbm, 309, rfl⟩
abbrev main_v236 : Ref sig .tc := ⟨.hbm, 310, rfl⟩
abbrev main_cst_67 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_cst_68 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_cst_69 : Ref sig .tc := ⟨.hbm, 321, rfl⟩
abbrev main_v245 : Ref sig .tc := ⟨.hbm, 322, rfl⟩
abbrev main_v246 : Ref sig .tc := ⟨.hbm, 323, rfl⟩
abbrev main_cst_70 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_cst_71 : Ref sig .tc := ⟨.hbm, 328, rfl⟩
abbrev main_v250 : Ref sig .tc := ⟨.hbm, 329, rfl⟩
abbrev main_v251 : Ref sig .tc := ⟨.hbm, 330, rfl⟩
abbrev main_cst_72 : Ref sig .tc := ⟨.hbm, 331, rfl⟩
abbrev main_v252 : Ref sig .tc := ⟨.hbm, 332, rfl⟩
abbrev main_v253 : Ref sig .tc := ⟨.hbm, 333, rfl⟩
abbrev main_cst_73 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_c_74 : Ref sig .tc := ⟨.hbm, 343, rfl⟩
abbrev main_v262 : Ref sig .tc := ⟨.hbm, 344, rfl⟩
abbrev main_v263 : Ref sig .tc := ⟨.hbm, 345, rfl⟩
abbrev main_c_75 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_c_76 : Ref sig .tc := ⟨.hbm, 350, rfl⟩
abbrev main_v267 : Ref sig .tc := ⟨.hbm, 351, rfl⟩
abbrev main_v268 : Ref sig .tc := ⟨.hbm, 352, rfl⟩
abbrev main_c_77 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_cst_78 : Ref sig .tc := ⟨.hbm, 360, rfl⟩
abbrev main_v275 : Ref sig .tc := ⟨.hbm, 361, rfl⟩
abbrev main_v276 : Ref sig .tc := ⟨.hbm, 362, rfl⟩
abbrev main_cst_79 : Ref sig .tc := ⟨.hbm, 363, rfl⟩
abbrev main_v277 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_cst_80 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_cst_81 : Ref sig .tc := ⟨.hbm, 373, rfl⟩
abbrev main_v285 : Ref sig .tc := ⟨.hbm, 374, rfl⟩
abbrev main_v286 : Ref sig .tc := ⟨.hbm, 375, rfl⟩
abbrev main_cst_82 : Ref sig .tc := ⟨.hbm, 376, rfl⟩
abbrev main_v287 : Ref sig .tc := ⟨.hbm, 377, rfl⟩
abbrev main_v288 : Ref sig .tc := ⟨.hbm, 378, rfl⟩
abbrev main_v289 : Ref sig .tc := ⟨.hbm, 379, rfl⟩
abbrev main_cst_83 : Ref sig .tc := ⟨.hbm, 380, rfl⟩
abbrev main_v290 : Ref sig .tc := ⟨.hbm, 381, rfl⟩
abbrev main_v291 : Ref sig .tc := ⟨.hbm, 382, rfl⟩
abbrev main_cst_84 : Ref sig .tc := ⟨.hbm, 383, rfl⟩
abbrev main_v292 : Ref sig .tc := ⟨.hbm, 384, rfl⟩
abbrev main_v293 : Ref sig .tc := ⟨.hbm, 385, rfl⟩
abbrev main_cst_85 : Ref sig .tc := ⟨.hbm, 386, rfl⟩
abbrev main_v294 : Ref sig .tc := ⟨.hbm, 387, rfl⟩
abbrev main_v295 : Ref sig .tc := ⟨.hbm, 388, rfl⟩
abbrev main_v296 : Ref sig .tc := ⟨.hbm, 389, rfl⟩
abbrev main_v297 : Ref sig .tc := ⟨.hbm, 390, rfl⟩
abbrev main_v298 : Ref sig .tc := ⟨.hbm, 391, rfl⟩
abbrev main_v299 : Ref sig .tc := ⟨.hbm, 392, rfl⟩
abbrev main_v300 : Ref sig .tc := ⟨.hbm, 393, rfl⟩
abbrev main_v301 : Ref sig .tc := ⟨.hbm, 394, rfl⟩
abbrev main_c_86 : Ref sig .tc := ⟨.hbm, 395, rfl⟩
abbrev main_v302 : Ref sig .tc := ⟨.hbm, 396, rfl⟩
abbrev main_v303 : Ref sig .tc := ⟨.hbm, 397, rfl⟩
abbrev main_c_87 : Ref sig .tc := ⟨.hbm, 398, rfl⟩
abbrev main_v304 : Ref sig .tc := ⟨.hbm, 399, rfl⟩
abbrev main_v305 : Ref sig .tc := ⟨.hbm, 400, rfl⟩
abbrev main_v306 : Ref sig .tc := ⟨.hbm, 401, rfl⟩
abbrev main_c_88 : Ref sig .tc := ⟨.hbm, 402, rfl⟩
abbrev main_v307 : Ref sig .tc := ⟨.hbm, 403, rfl⟩
abbrev main_v308 : Ref sig .tc := ⟨.hbm, 404, rfl⟩
abbrev main_c_89 : Ref sig .tc := ⟨.hbm, 405, rfl⟩
abbrev main_v309 : Ref sig .tc := ⟨.hbm, 406, rfl⟩
abbrev main_v310 : Ref sig .tc := ⟨.hbm, 407, rfl⟩
abbrev main_v311 : Ref sig .tc := ⟨.hbm, 408, rfl⟩
abbrev main_v312 : Ref sig .tc := ⟨.hbm, 409, rfl⟩
abbrev main_v313 : Ref sig .tc := ⟨.hbm, 410, rfl⟩
abbrev main_v314 : Ref sig .tc := ⟨.hbm, 411, rfl⟩
abbrev main_cst_90 : Ref sig .tc := ⟨.hbm, 412, rfl⟩
abbrev main_v315 : Ref sig .tc := ⟨.hbm, 413, rfl⟩
abbrev main_v316 : Ref sig .tc := ⟨.hbm, 414, rfl⟩
abbrev main_cst_91 : Ref sig .tc := ⟨.hbm, 415, rfl⟩
abbrev main_v317 : Ref sig .tc := ⟨.hbm, 416, rfl⟩
abbrev main_v318 : Ref sig .tc := ⟨.hbm, 417, rfl⟩
abbrev main_v319 : Ref sig .tc := ⟨.hbm, 418, rfl⟩
abbrev main_v320 : Ref sig .tc := ⟨.hbm, 419, rfl⟩
abbrev main_cst_92 : Ref sig .tc := ⟨.hbm, 420, rfl⟩
abbrev main_v321 : Ref sig .tc := ⟨.hbm, 421, rfl⟩
abbrev main_v322 : Ref sig .tc := ⟨.hbm, 422, rfl⟩
abbrev main_v323 : Ref sig .tc := ⟨.hbm, 423, rfl⟩
abbrev main_v324 : Ref sig .tc := ⟨.hbm, 424, rfl⟩
abbrev main_cst_93 : Ref sig .tc := ⟨.hbm, 425, rfl⟩
abbrev main_v325 : Ref sig .tc := ⟨.hbm, 426, rfl⟩
abbrev main_v326 : Ref sig .tc := ⟨.hbm, 427, rfl⟩
abbrev main_cst_94 : Ref sig .tc := ⟨.hbm, 428, rfl⟩
abbrev main_v327 : Ref sig .tc := ⟨.hbm, 429, rfl⟩
abbrev main_v328 : Ref sig .tc := ⟨.hbm, 430, rfl⟩
abbrev main_v329 : Ref sig .tc := ⟨.hbm, 431, rfl⟩
abbrev main_cst_95 : Ref sig .tc := ⟨.hbm, 432, rfl⟩
abbrev main_v330 : Ref sig .tc := ⟨.hbm, 433, rfl⟩
abbrev main_v331 : Ref sig .tc := ⟨.hbm, 434, rfl⟩
abbrev main_cst_96 : Ref sig .tc := ⟨.hbm, 435, rfl⟩
abbrev main_v332 : Ref sig .tc := ⟨.hbm, 436, rfl⟩
abbrev main_v333 : Ref sig .tc := ⟨.hbm, 437, rfl⟩
abbrev main_cst_97 : Ref sig .tc := ⟨.hbm, 438, rfl⟩
abbrev main_v334 : Ref sig .tc := ⟨.hbm, 439, rfl⟩
abbrev main_v335 : Ref sig .tc := ⟨.hbm, 440, rfl⟩
abbrev main_v336 : Ref sig .tc := ⟨.hbm, 441, rfl⟩
abbrev main_v337 : Ref sig .tc := ⟨.hbm, 442, rfl⟩
abbrev main_v338 : Ref sig .tc := ⟨.hbm, 443, rfl⟩
abbrev main_v339 : Ref sig .tc := ⟨.hbm, 444, rfl⟩
abbrev main_v340 : Ref sig .tc := ⟨.hbm, 445, rfl⟩
abbrev main_v341 : Ref sig .tc := ⟨.hbm, 446, rfl⟩
abbrev main_c_98 : Ref sig .tc := ⟨.hbm, 447, rfl⟩
abbrev main_v342 : Ref sig .tc := ⟨.hbm, 448, rfl⟩
abbrev main_v343 : Ref sig .tc := ⟨.hbm, 449, rfl⟩
abbrev main_c_99 : Ref sig .tc := ⟨.hbm, 450, rfl⟩
abbrev main_v344 : Ref sig .tc := ⟨.hbm, 451, rfl⟩
abbrev main_v345 : Ref sig .tc := ⟨.hbm, 452, rfl⟩
abbrev main_v346 : Ref sig .tc := ⟨.hbm, 453, rfl⟩
abbrev main_c_100 : Ref sig .tc := ⟨.hbm, 454, rfl⟩
abbrev main_v347 : Ref sig .tc := ⟨.hbm, 455, rfl⟩
abbrev main_v348 : Ref sig .tc := ⟨.hbm, 456, rfl⟩
abbrev main_c_101 : Ref sig .tc := ⟨.hbm, 457, rfl⟩
abbrev main_v349 : Ref sig .tc := ⟨.hbm, 458, rfl⟩
abbrev main_v350 : Ref sig .tc := ⟨.hbm, 459, rfl⟩
abbrev main_v351 : Ref sig .tc := ⟨.hbm, 460, rfl⟩
abbrev main_v352 : Ref sig .tc := ⟨.hbm, 461, rfl⟩
abbrev main_v353 : Ref sig .tc := ⟨.hbm, 462, rfl⟩
abbrev main_v354 : Ref sig .tc := ⟨.hbm, 463, rfl⟩
abbrev main_cst_102 : Ref sig .tc := ⟨.hbm, 464, rfl⟩
abbrev main_v355 : Ref sig .tc := ⟨.hbm, 465, rfl⟩
abbrev main_v356 : Ref sig .tc := ⟨.hbm, 466, rfl⟩
abbrev main_cst_103 : Ref sig .tc := ⟨.hbm, 467, rfl⟩
abbrev main_v357 : Ref sig .tc := ⟨.hbm, 468, rfl⟩
abbrev main_v358 : Ref sig .tc := ⟨.hbm, 469, rfl⟩
abbrev main_v359 : Ref sig .tc := ⟨.hbm, 470, rfl⟩
abbrev main_v360 : Ref sig .tc := ⟨.hbm, 471, rfl⟩
abbrev main_cst_104 : Ref sig .tc := ⟨.hbm, 472, rfl⟩
abbrev main_v361 : Ref sig .tc := ⟨.hbm, 473, rfl⟩
abbrev main_v362 : Ref sig .tc := ⟨.hbm, 474, rfl⟩
abbrev main_v363 : Ref sig .tc := ⟨.hbm, 475, rfl⟩
abbrev main_v364 : Ref sig .tc := ⟨.hbm, 476, rfl⟩
abbrev main_cst_105 : Ref sig .tc := ⟨.hbm, 477, rfl⟩
abbrev main_v365 : Ref sig .tc := ⟨.hbm, 478, rfl⟩
abbrev main_v366 : Ref sig .tc := ⟨.hbm, 479, rfl⟩
abbrev main_cst_106 : Ref sig .tc := ⟨.hbm, 480, rfl⟩
abbrev main_v367 : Ref sig .tc := ⟨.hbm, 481, rfl⟩
abbrev main_v368 : Ref sig .tc := ⟨.hbm, 482, rfl⟩
abbrev main_v369 : Ref sig .tc := ⟨.hbm, 483, rfl⟩
abbrev main_cst_107 : Ref sig .tc := ⟨.hbm, 484, rfl⟩
abbrev main_v370 : Ref sig .tc := ⟨.hbm, 485, rfl⟩
abbrev main_v371 : Ref sig .tc := ⟨.hbm, 486, rfl⟩
abbrev main_cst_108 : Ref sig .tc := ⟨.hbm, 487, rfl⟩
abbrev main_v372 : Ref sig .tc := ⟨.hbm, 488, rfl⟩
abbrev main_v373 : Ref sig .tc := ⟨.hbm, 489, rfl⟩
abbrev main_cst_109 : Ref sig .tc := ⟨.hbm, 490, rfl⟩
abbrev main_v374 : Ref sig .tc := ⟨.hbm, 491, rfl⟩
abbrev main_v375 : Ref sig .tc := ⟨.hbm, 492, rfl⟩
abbrev main_v376 : Ref sig .tc := ⟨.hbm, 493, rfl⟩
abbrev main_v377 : Ref sig .tc := ⟨.hbm, 494, rfl⟩
abbrev main_v378 : Ref sig .tc := ⟨.hbm, 495, rfl⟩
abbrev main_v379 : Ref sig .tc := ⟨.hbm, 496, rfl⟩
abbrev main_v380 : Ref sig .tc := ⟨.hbm, 497, rfl⟩
abbrev main_v381 : Ref sig .tc := ⟨.hbm, 498, rfl⟩
abbrev main_c_110 : Ref sig .tc := ⟨.hbm, 499, rfl⟩
abbrev main_v382 : Ref sig .tc := ⟨.hbm, 500, rfl⟩
abbrev main_v383 : Ref sig .tc := ⟨.hbm, 501, rfl⟩
abbrev main_c_111 : Ref sig .tc := ⟨.hbm, 502, rfl⟩
abbrev main_v384 : Ref sig .tc := ⟨.hbm, 503, rfl⟩
abbrev main_v385 : Ref sig .tc := ⟨.hbm, 504, rfl⟩
abbrev main_v386 : Ref sig .tc := ⟨.hbm, 505, rfl⟩
abbrev main_c_112 : Ref sig .tc := ⟨.hbm, 506, rfl⟩
abbrev main_v387 : Ref sig .tc := ⟨.hbm, 507, rfl⟩
abbrev main_v388 : Ref sig .tc := ⟨.hbm, 508, rfl⟩
abbrev main_c_113 : Ref sig .tc := ⟨.hbm, 509, rfl⟩
abbrev main_v389 : Ref sig .tc := ⟨.hbm, 510, rfl⟩
abbrev main_v390 : Ref sig .tc := ⟨.hbm, 511, rfl⟩
abbrev main_v391 : Ref sig .tc := ⟨.hbm, 512, rfl⟩
abbrev main_v392 : Ref sig .tc := ⟨.hbm, 513, rfl⟩
abbrev main_v393 : Ref sig .tc := ⟨.hbm, 514, rfl⟩
abbrev main_v394 : Ref sig .tc := ⟨.hbm, 515, rfl⟩
abbrev main_cst_114 : Ref sig .tc := ⟨.hbm, 516, rfl⟩
abbrev main_v395 : Ref sig .tc := ⟨.hbm, 517, rfl⟩
abbrev main_v396 : Ref sig .tc := ⟨.hbm, 518, rfl⟩
abbrev main_cst_115 : Ref sig .tc := ⟨.hbm, 519, rfl⟩
abbrev main_v397 : Ref sig .tc := ⟨.hbm, 520, rfl⟩
abbrev main_v398 : Ref sig .tc := ⟨.hbm, 521, rfl⟩
abbrev main_v399 : Ref sig .tc := ⟨.hbm, 522, rfl⟩
abbrev main_v400 : Ref sig .tc := ⟨.hbm, 523, rfl⟩
abbrev main_cst_116 : Ref sig .tc := ⟨.hbm, 524, rfl⟩
abbrev main_v401 : Ref sig .tc := ⟨.hbm, 525, rfl⟩
abbrev main_v402 : Ref sig .tc := ⟨.hbm, 526, rfl⟩
abbrev main_v403 : Ref sig .tc := ⟨.hbm, 527, rfl⟩
abbrev main_v404 : Ref sig .tc := ⟨.hbm, 528, rfl⟩
abbrev main_cst_117 : Ref sig .tc := ⟨.hbm, 529, rfl⟩
abbrev main_v405 : Ref sig .tc := ⟨.hbm, 530, rfl⟩
abbrev main_v406 : Ref sig .tc := ⟨.hbm, 531, rfl⟩
abbrev main_cst_118 : Ref sig .tc := ⟨.hbm, 532, rfl⟩
abbrev main_v407 : Ref sig .tc := ⟨.hbm, 533, rfl⟩
abbrev main_v408 : Ref sig .tc := ⟨.hbm, 534, rfl⟩
abbrev main_v409 : Ref sig .tc := ⟨.hbm, 535, rfl⟩
abbrev main_cst_119 : Ref sig .tc := ⟨.hbm, 536, rfl⟩
abbrev main_v410 : Ref sig .tc := ⟨.hbm, 537, rfl⟩
abbrev main_v411 : Ref sig .tc := ⟨.hbm, 538, rfl⟩
abbrev main_cst_120 : Ref sig .tc := ⟨.hbm, 539, rfl⟩
abbrev main_v412 : Ref sig .tc := ⟨.hbm, 540, rfl⟩
abbrev main_v413 : Ref sig .tc := ⟨.hbm, 541, rfl⟩
abbrev main_cst_121 : Ref sig .tc := ⟨.hbm, 542, rfl⟩
abbrev main_v414 : Ref sig .tc := ⟨.hbm, 543, rfl⟩
abbrev main_v415 : Ref sig .tc := ⟨.hbm, 544, rfl⟩
abbrev main_v416 : Ref sig .tc := ⟨.hbm, 545, rfl⟩
abbrev main_v417 : Ref sig .tc := ⟨.hbm, 546, rfl⟩
abbrev main_v418 : Ref sig .tc := ⟨.hbm, 547, rfl⟩
abbrev main_v419 : Ref sig .tc := ⟨.hbm, 548, rfl⟩
abbrev main_v420 : Ref sig .tc := ⟨.hbm, 549, rfl⟩
abbrev main_v421 : Ref sig .tc := ⟨.hbm, 550, rfl⟩
abbrev main_c_122 : Ref sig .tc := ⟨.hbm, 551, rfl⟩
abbrev main_v422 : Ref sig .tc := ⟨.hbm, 552, rfl⟩
abbrev main_v423 : Ref sig .tc := ⟨.hbm, 553, rfl⟩
abbrev main_c_123 : Ref sig .tc := ⟨.hbm, 554, rfl⟩
abbrev main_v424 : Ref sig .tc := ⟨.hbm, 555, rfl⟩
abbrev main_v425 : Ref sig .tc := ⟨.hbm, 556, rfl⟩
abbrev main_v426 : Ref sig .tc := ⟨.hbm, 557, rfl⟩
abbrev main_c_124 : Ref sig .tc := ⟨.hbm, 558, rfl⟩
abbrev main_v427 : Ref sig .tc := ⟨.hbm, 559, rfl⟩
abbrev main_v428 : Ref sig .tc := ⟨.hbm, 560, rfl⟩
abbrev main_c_125 : Ref sig .tc := ⟨.hbm, 561, rfl⟩
abbrev main_v429 : Ref sig .tc := ⟨.hbm, 562, rfl⟩
abbrev main_v430 : Ref sig .tc := ⟨.hbm, 563, rfl⟩
abbrev main_v431 : Ref sig .tc := ⟨.hbm, 564, rfl⟩
abbrev main_v432 : Ref sig .tc := ⟨.hbm, 565, rfl⟩
abbrev main_v433 : Ref sig .tc := ⟨.hbm, 566, rfl⟩
abbrev main_v434 : Ref sig .tc := ⟨.hbm, 567, rfl⟩
abbrev main_cst_126 : Ref sig .tc := ⟨.hbm, 568, rfl⟩
abbrev main_v435 : Ref sig .tc := ⟨.hbm, 569, rfl⟩
abbrev main_v436 : Ref sig .tc := ⟨.hbm, 570, rfl⟩
abbrev main_cst_127 : Ref sig .tc := ⟨.hbm, 571, rfl⟩
abbrev main_v437 : Ref sig .tc := ⟨.hbm, 572, rfl⟩
abbrev main_v438 : Ref sig .tc := ⟨.hbm, 573, rfl⟩
abbrev main_v439 : Ref sig .tc := ⟨.hbm, 574, rfl⟩
abbrev main_v440 : Ref sig .tc := ⟨.hbm, 575, rfl⟩
abbrev main_cst_128 : Ref sig .tc := ⟨.hbm, 576, rfl⟩
abbrev main_v441 : Ref sig .tc := ⟨.hbm, 577, rfl⟩
abbrev main_v442 : Ref sig .tc := ⟨.hbm, 578, rfl⟩
abbrev main_v443 : Ref sig .tc := ⟨.hbm, 579, rfl⟩
abbrev main_v444 : Ref sig .tc := ⟨.hbm, 580, rfl⟩
abbrev main_cst_129 : Ref sig .tc := ⟨.hbm, 581, rfl⟩
abbrev main_v445 : Ref sig .tc := ⟨.hbm, 582, rfl⟩
abbrev main_v446 : Ref sig .tc := ⟨.hbm, 583, rfl⟩
abbrev main_cst_130 : Ref sig .tc := ⟨.hbm, 584, rfl⟩
abbrev main_v447 : Ref sig .tc := ⟨.hbm, 585, rfl⟩
abbrev main_v448 : Ref sig .tc := ⟨.hbm, 586, rfl⟩
abbrev main_v449 : Ref sig .tc := ⟨.hbm, 587, rfl⟩
abbrev main_cst_131 : Ref sig .tc := ⟨.hbm, 588, rfl⟩
abbrev main_v450 : Ref sig .tc := ⟨.hbm, 589, rfl⟩
abbrev main_v451 : Ref sig .tc := ⟨.hbm, 590, rfl⟩
abbrev main_cst_132 : Ref sig .tc := ⟨.hbm, 591, rfl⟩
abbrev main_v452 : Ref sig .tc := ⟨.hbm, 592, rfl⟩
abbrev main_v453 : Ref sig .tc := ⟨.hbm, 593, rfl⟩
abbrev main_cst_133 : Ref sig .tc := ⟨.hbm, 594, rfl⟩
abbrev main_v454 : Ref sig .tc := ⟨.hbm, 595, rfl⟩
abbrev main_v455 : Ref sig .tc := ⟨.hbm, 596, rfl⟩
abbrev main_v456 : Ref sig .tc := ⟨.hbm, 597, rfl⟩
abbrev main_v457 : Ref sig .tc := ⟨.hbm, 598, rfl⟩
abbrev main_v458 : Ref sig .tc := ⟨.hbm, 599, rfl⟩
abbrev main_v459 : Ref sig .tc := ⟨.hbm, 600, rfl⟩
abbrev main_v460 : Ref sig .tc := ⟨.hbm, 601, rfl⟩
abbrev main_v461 : Ref sig .tc := ⟨.hbm, 602, rfl⟩
abbrev main_c_134 : Ref sig .tc := ⟨.hbm, 603, rfl⟩
abbrev main_v462 : Ref sig .tc := ⟨.hbm, 604, rfl⟩
abbrev main_v463 : Ref sig .tc := ⟨.hbm, 605, rfl⟩
abbrev main_c_135 : Ref sig .tc := ⟨.hbm, 606, rfl⟩
abbrev main_v464 : Ref sig .tc := ⟨.hbm, 607, rfl⟩
abbrev main_v465 : Ref sig .tc := ⟨.hbm, 608, rfl⟩
abbrev main_v466 : Ref sig .tc := ⟨.hbm, 609, rfl⟩
abbrev main_c_136 : Ref sig .tc := ⟨.hbm, 610, rfl⟩
abbrev main_v467 : Ref sig .tc := ⟨.hbm, 611, rfl⟩
abbrev main_v468 : Ref sig .tc := ⟨.hbm, 612, rfl⟩
abbrev main_c_137 : Ref sig .tc := ⟨.hbm, 613, rfl⟩
abbrev main_v469 : Ref sig .tc := ⟨.hbm, 614, rfl⟩
abbrev main_v470 : Ref sig .tc := ⟨.hbm, 615, rfl⟩
abbrev main_v471 : Ref sig .tc := ⟨.hbm, 616, rfl⟩
abbrev main_v472 : Ref sig .tc := ⟨.hbm, 617, rfl⟩
abbrev main_v473 : Ref sig .tc := ⟨.hbm, 618, rfl⟩
abbrev main_v474 : Ref sig .tc := ⟨.hbm, 619, rfl⟩
abbrev main_cst_138 : Ref sig .tc := ⟨.hbm, 620, rfl⟩
abbrev main_v475 : Ref sig .tc := ⟨.hbm, 621, rfl⟩
abbrev main_v476 : Ref sig .tc := ⟨.hbm, 622, rfl⟩
abbrev main_cst_139 : Ref sig .tc := ⟨.hbm, 623, rfl⟩
abbrev main_v477 : Ref sig .tc := ⟨.hbm, 624, rfl⟩
abbrev main_v478 : Ref sig .tc := ⟨.hbm, 625, rfl⟩
abbrev main_v479 : Ref sig .tc := ⟨.hbm, 626, rfl⟩
abbrev main_v480 : Ref sig .tc := ⟨.hbm, 627, rfl⟩
abbrev main_cst_140 : Ref sig .tc := ⟨.hbm, 628, rfl⟩
abbrev main_v481 : Ref sig .tc := ⟨.hbm, 629, rfl⟩
abbrev main_v482 : Ref sig .tc := ⟨.hbm, 630, rfl⟩
abbrev main_v483 : Ref sig .tc := ⟨.hbm, 631, rfl⟩
abbrev main_v484 : Ref sig .tc := ⟨.hbm, 632, rfl⟩
abbrev main_cst_141 : Ref sig .tc := ⟨.hbm, 633, rfl⟩
abbrev main_v485 : Ref sig .tc := ⟨.hbm, 634, rfl⟩
abbrev main_v486 : Ref sig .tc := ⟨.hbm, 635, rfl⟩
abbrev main_cst_142 : Ref sig .tc := ⟨.hbm, 636, rfl⟩
abbrev main_v487 : Ref sig .tc := ⟨.hbm, 637, rfl⟩
abbrev main_v488 : Ref sig .tc := ⟨.hbm, 638, rfl⟩
abbrev main_v489 : Ref sig .tc := ⟨.hbm, 639, rfl⟩
abbrev main_cst_143 : Ref sig .tc := ⟨.hbm, 640, rfl⟩
abbrev main_v490 : Ref sig .tc := ⟨.hbm, 641, rfl⟩
abbrev main_v491 : Ref sig .tc := ⟨.hbm, 642, rfl⟩
abbrev main_cst_144 : Ref sig .tc := ⟨.hbm, 643, rfl⟩
abbrev main_v492 : Ref sig .tc := ⟨.hbm, 644, rfl⟩
abbrev main_v493 : Ref sig .tc := ⟨.hbm, 645, rfl⟩
abbrev main_cst_145 : Ref sig .tc := ⟨.hbm, 646, rfl⟩
abbrev main_v494 : Ref sig .tc := ⟨.hbm, 647, rfl⟩
abbrev main_v495 : Ref sig .tc := ⟨.hbm, 648, rfl⟩
abbrev main_v496 : Ref sig .tc := ⟨.hbm, 649, rfl⟩
abbrev main_v497 : Ref sig .tc := ⟨.hbm, 650, rfl⟩
abbrev main_v498 : Ref sig .tc := ⟨.hbm, 651, rfl⟩
abbrev main_v499 : Ref sig .tc := ⟨.hbm, 652, rfl⟩
abbrev main_v500 : Ref sig .tc := ⟨.hbm, 653, rfl⟩
abbrev main_v501 : Ref sig .tc := ⟨.hbm, 654, rfl⟩
abbrev main_c_146 : Ref sig .tc := ⟨.hbm, 655, rfl⟩
abbrev main_v502 : Ref sig .tc := ⟨.hbm, 656, rfl⟩
abbrev main_v503 : Ref sig .tc := ⟨.hbm, 657, rfl⟩
abbrev main_c_147 : Ref sig .tc := ⟨.hbm, 658, rfl⟩
abbrev main_v504 : Ref sig .tc := ⟨.hbm, 659, rfl⟩
abbrev main_v505 : Ref sig .tc := ⟨.hbm, 660, rfl⟩
abbrev main_v506 : Ref sig .tc := ⟨.hbm, 661, rfl⟩
abbrev main_c_148 : Ref sig .tc := ⟨.hbm, 662, rfl⟩
abbrev main_v507 : Ref sig .tc := ⟨.hbm, 663, rfl⟩
abbrev main_v508 : Ref sig .tc := ⟨.hbm, 664, rfl⟩
abbrev main_c_149 : Ref sig .tc := ⟨.hbm, 665, rfl⟩
abbrev main_v509 : Ref sig .tc := ⟨.hbm, 666, rfl⟩
abbrev main_v510 : Ref sig .tc := ⟨.hbm, 667, rfl⟩
abbrev main_v511 : Ref sig .tc := ⟨.hbm, 668, rfl⟩
abbrev main_v512 : Ref sig .tc := ⟨.hbm, 669, rfl⟩
abbrev main_v513 : Ref sig .tc := ⟨.hbm, 670, rfl⟩
abbrev main_v514 : Ref sig .tc := ⟨.hbm, 671, rfl⟩
abbrev main_cst_150 : Ref sig .tc := ⟨.hbm, 672, rfl⟩
abbrev main_v515 : Ref sig .tc := ⟨.hbm, 673, rfl⟩
abbrev main_v516 : Ref sig .tc := ⟨.hbm, 674, rfl⟩
abbrev main_cst_151 : Ref sig .tc := ⟨.hbm, 675, rfl⟩
abbrev main_v517 : Ref sig .tc := ⟨.hbm, 676, rfl⟩
abbrev main_v518 : Ref sig .tc := ⟨.hbm, 677, rfl⟩
abbrev main_v519 : Ref sig .tc := ⟨.hbm, 678, rfl⟩
abbrev main_v520 : Ref sig .tc := ⟨.hbm, 679, rfl⟩
abbrev main_cst_152 : Ref sig .tc := ⟨.hbm, 680, rfl⟩
abbrev main_v521 : Ref sig .tc := ⟨.hbm, 681, rfl⟩
abbrev main_v522 : Ref sig .tc := ⟨.hbm, 682, rfl⟩
abbrev main_v523 : Ref sig .tc := ⟨.hbm, 683, rfl⟩
abbrev main_v524 : Ref sig .tc := ⟨.hbm, 684, rfl⟩
abbrev main_cst_153 : Ref sig .tc := ⟨.hbm, 685, rfl⟩
abbrev main_v525 : Ref sig .tc := ⟨.hbm, 686, rfl⟩
abbrev main_v526 : Ref sig .tc := ⟨.hbm, 687, rfl⟩
abbrev main_cst_154 : Ref sig .tc := ⟨.hbm, 688, rfl⟩
abbrev main_v527 : Ref sig .tc := ⟨.hbm, 689, rfl⟩
abbrev main_v528 : Ref sig .tc := ⟨.hbm, 690, rfl⟩
abbrev main_v529 : Ref sig .tc := ⟨.hbm, 691, rfl⟩
abbrev main_cst_155 : Ref sig .tc := ⟨.hbm, 692, rfl⟩
abbrev main_v530 : Ref sig .tc := ⟨.hbm, 693, rfl⟩
abbrev main_v531 : Ref sig .tc := ⟨.hbm, 694, rfl⟩
abbrev main_cst_156 : Ref sig .tc := ⟨.hbm, 695, rfl⟩
abbrev main_v532 : Ref sig .tc := ⟨.hbm, 696, rfl⟩
abbrev main_v533 : Ref sig .tc := ⟨.hbm, 697, rfl⟩
abbrev main_cst_157 : Ref sig .tc := ⟨.hbm, 698, rfl⟩
abbrev main_v534 : Ref sig .tc := ⟨.hbm, 699, rfl⟩
abbrev main_v535 : Ref sig .tc := ⟨.hbm, 700, rfl⟩
abbrev main_v536 : Ref sig .tc := ⟨.hbm, 701, rfl⟩
abbrev main_v537 : Ref sig .tc := ⟨.hbm, 702, rfl⟩
abbrev main_v538 : Ref sig .tc := ⟨.hbm, 703, rfl⟩
abbrev main_v539 : Ref sig .tc := ⟨.hbm, 704, rfl⟩
abbrev main_cst_158 : Ref sig .tc := ⟨.hbm, 705, rfl⟩
abbrev main_v540 : Ref sig .tc := ⟨.hbm, 706, rfl⟩
abbrev main_cst_159 : Ref sig .tc := ⟨.hbm, 707, rfl⟩
abbrev main_v541 : Ref sig .tc := ⟨.hbm, 708, rfl⟩
abbrev main_v542 : Ref sig .tc := ⟨.hbm, 709, rfl⟩
abbrev main_v543 : Ref sig .tc := ⟨.hbm, 710, rfl⟩
abbrev main_v544 : Ref sig .tc := ⟨.hbm, 711, rfl⟩
abbrev main_v545 : Ref sig .tc := ⟨.hbm, 712, rfl⟩
abbrev main_v546 : Ref sig .tc := ⟨.hbm, 713, rfl⟩
abbrev main_cst_160 : Ref sig .tc := ⟨.hbm, 714, rfl⟩
abbrev main_v547 : Ref sig .tc := ⟨.hbm, 715, rfl⟩
abbrev main_v548 : Ref sig .tc := ⟨.hbm, 716, rfl⟩
abbrev main_v549 : Ref sig .tc := ⟨.hbm, 717, rfl⟩
abbrev main_v550 : Ref sig .tc := ⟨.hbm, 718, rfl⟩
abbrev main_v551 : Ref sig .tc := ⟨.hbm, 719, rfl⟩
abbrev main_v552 : Ref sig .tc := ⟨.hbm, 720, rfl⟩
abbrev main_v553 : Ref sig .tc := ⟨.hbm, 721, rfl⟩
abbrev main_v554 : Ref sig .tc := ⟨.hbm, 722, rfl⟩
abbrev main_v555 : Ref sig .tc := ⟨.hbm, 723, rfl⟩
abbrev main_c_161 : Ref sig .tc := ⟨.hbm, 724, rfl⟩
abbrev main_v556 : Ref sig .tc := ⟨.hbm, 725, rfl⟩
abbrev main_v557 : Ref sig .tc := ⟨.hbm, 726, rfl⟩
abbrev main_c_162 : Ref sig .tc := ⟨.hbm, 727, rfl⟩
abbrev main_v558 : Ref sig .tc := ⟨.hbm, 728, rfl⟩
abbrev main_v559 : Ref sig .tc := ⟨.hbm, 729, rfl⟩
abbrev main_v560 : Ref sig .tc := ⟨.hbm, 730, rfl⟩
abbrev main_c_163 : Ref sig .tc := ⟨.hbm, 731, rfl⟩
abbrev main_v561 : Ref sig .tc := ⟨.hbm, 732, rfl⟩
abbrev main_v562 : Ref sig .tc := ⟨.hbm, 733, rfl⟩
abbrev main_c_164 : Ref sig .tc := ⟨.hbm, 734, rfl⟩
abbrev main_v563 : Ref sig .tc := ⟨.hbm, 735, rfl⟩
abbrev main_v564 : Ref sig .tc := ⟨.hbm, 736, rfl⟩
abbrev main_v565 : Ref sig .tc := ⟨.hbm, 737, rfl⟩
abbrev main_v566 : Ref sig .tc := ⟨.hbm, 738, rfl⟩
abbrev main_v567 : Ref sig .tc := ⟨.hbm, 739, rfl⟩
abbrev main_v568 : Ref sig .tc := ⟨.hbm, 740, rfl⟩
abbrev main_cst_165 : Ref sig .tc := ⟨.hbm, 741, rfl⟩
abbrev main_v569 : Ref sig .tc := ⟨.hbm, 742, rfl⟩
abbrev main_v570 : Ref sig .tc := ⟨.hbm, 743, rfl⟩
abbrev main_cst_166 : Ref sig .tc := ⟨.hbm, 744, rfl⟩
abbrev main_v571 : Ref sig .tc := ⟨.hbm, 745, rfl⟩
abbrev main_v572 : Ref sig .tc := ⟨.hbm, 746, rfl⟩
abbrev main_v573 : Ref sig .tc := ⟨.hbm, 747, rfl⟩
abbrev main_v574 : Ref sig .tc := ⟨.hbm, 748, rfl⟩
abbrev main_cst_167 : Ref sig .tc := ⟨.hbm, 749, rfl⟩
abbrev main_v575 : Ref sig .tc := ⟨.hbm, 750, rfl⟩
abbrev main_v576 : Ref sig .tc := ⟨.hbm, 751, rfl⟩
abbrev main_v577 : Ref sig .tc := ⟨.hbm, 752, rfl⟩
abbrev main_v578 : Ref sig .tc := ⟨.hbm, 753, rfl⟩
abbrev main_cst_168 : Ref sig .tc := ⟨.hbm, 754, rfl⟩
abbrev main_v579 : Ref sig .tc := ⟨.hbm, 755, rfl⟩
abbrev main_v580 : Ref sig .tc := ⟨.hbm, 756, rfl⟩
abbrev main_v581 : Ref sig .tc := ⟨.hbm, 757, rfl⟩
abbrev main_c_169 : Ref sig .tc := ⟨.hbm, 758, rfl⟩
abbrev main_v582 : Ref sig .tc := ⟨.hbm, 759, rfl⟩
abbrev main_v583 : Ref sig .tc := ⟨.hbm, 760, rfl⟩
abbrev main_c_170 : Ref sig .tc := ⟨.hbm, 761, rfl⟩
abbrev main_v584 : Ref sig .tc := ⟨.hbm, 762, rfl⟩
abbrev main_v585 : Ref sig .tc := ⟨.hbm, 763, rfl⟩
abbrev main_v586 : Ref sig .tc := ⟨.hbm, 764, rfl⟩
abbrev main_c_171 : Ref sig .tc := ⟨.hbm, 765, rfl⟩
abbrev main_v587 : Ref sig .tc := ⟨.hbm, 766, rfl⟩
abbrev main_v588 : Ref sig .tc := ⟨.hbm, 767, rfl⟩
abbrev main_c_172 : Ref sig .tc := ⟨.hbm, 768, rfl⟩
abbrev main_v589 : Ref sig .tc := ⟨.hbm, 769, rfl⟩
abbrev main_v590 : Ref sig .tc := ⟨.hbm, 770, rfl⟩
abbrev main_v591 : Ref sig .tc := ⟨.hbm, 771, rfl⟩
abbrev main_v592 : Ref sig .tc := ⟨.hbm, 772, rfl⟩
abbrev main_v593 : Ref sig .tc := ⟨.hbm, 773, rfl⟩
abbrev main_v594 : Ref sig .tc := ⟨.hbm, 774, rfl⟩
abbrev main_v595 : Ref sig .tc := ⟨.hbm, 775, rfl⟩
abbrev main_v596 : Ref sig .tc := ⟨.hbm, 776, rfl⟩
abbrev main_cst_173 : Ref sig .tc := ⟨.hbm, 777, rfl⟩
abbrev main_v597 : Ref sig .tc := ⟨.hbm, 778, rfl⟩
abbrev main_v598 : Ref sig .tc := ⟨.hbm, 779, rfl⟩
abbrev main_v599 : Ref sig .tc := ⟨.hbm, 780, rfl⟩
abbrev main_v600 : Ref sig .tc := ⟨.hbm, 781, rfl⟩
abbrev main_v601 : Ref sig .tc := ⟨.hbm, 782, rfl⟩
abbrev main_v602 : Ref sig .tc := ⟨.hbm, 783, rfl⟩
abbrev main_v603 : Ref sig .tc := ⟨.hbm, 784, rfl⟩
abbrev main_v604 : Ref sig .tc := ⟨.hbm, 785, rfl⟩
abbrev main_cst_174 : Ref sig .tc := ⟨.hbm, 786, rfl⟩
abbrev main_v605 : Ref sig .tc := ⟨.hbm, 787, rfl⟩
abbrev main_v606 : Ref sig .tc := ⟨.hbm, 788, rfl⟩
abbrev main_v607 : Ref sig .tc := ⟨.hbm, 789, rfl⟩
abbrev main_v608 : Ref sig .tc := ⟨.hbm, 790, rfl⟩
abbrev main_v609 : Ref sig .tc := ⟨.hbm, 791, rfl⟩
abbrev main_cst_175 : Ref sig .tc := ⟨.hbm, 792, rfl⟩
abbrev main_v610 : Ref sig .tc := ⟨.hbm, 793, rfl⟩
abbrev main_v611 : Ref sig .tc := ⟨.hbm, 794, rfl⟩
abbrev main_cst_176 : Ref sig .tc := ⟨.hbm, 795, rfl⟩
abbrev main_v612 : Ref sig .tc := ⟨.hbm, 796, rfl⟩
abbrev main_v613 : Ref sig .tc := ⟨.hbm, 797, rfl⟩
abbrev main_v614 : Ref sig .tc := ⟨.hbm, 798, rfl⟩
abbrev main_cst_177 : Ref sig .tc := ⟨.hbm, 799, rfl⟩
abbrev main_v615 : Ref sig .tc := ⟨.hbm, 800, rfl⟩
abbrev main_cst_178 : Ref sig .tc := ⟨.hbm, 801, rfl⟩
abbrev main_v616 : Ref sig .tc := ⟨.hbm, 802, rfl⟩
abbrev main_v617 : Ref sig .tc := ⟨.hbm, 803, rfl⟩
abbrev main_cst_179 : Ref sig .tc := ⟨.hbm, 804, rfl⟩
abbrev main_v618 : Ref sig .tc := ⟨.hbm, 805, rfl⟩
abbrev main_cst_180 : Ref sig .tc := ⟨.hbm, 806, rfl⟩
abbrev main_v619 : Ref sig .tc := ⟨.hbm, 807, rfl⟩
abbrev main_cst_181 : Ref sig .tc := ⟨.hbm, 808, rfl⟩
abbrev main_v620 : Ref sig .tc := ⟨.hbm, 809, rfl⟩
abbrev main_cst_182 : Ref sig .tc := ⟨.hbm, 810, rfl⟩
abbrev main_v621 : Ref sig .tc := ⟨.hbm, 811, rfl⟩

abbrev nD : Nat := 1
abbrev τ : Topo := Topo.v7x

variable {F : FTy → Type} [FloatOps F]
-- ==== Proof.Frame.Kernel.lean ====
module
public import proofs.«01_k».proof.Proof.Gen.Kernel.Frame
public import proofs.«01_k».proof.Proof.Gen.Kernel.Loops
public import Idealize.ShloMosaic.Lib.Claim
public import Idealize.ShloMosaic.Lib.VecWindow
public import Idealize.ShloMosaic.Lib.Pipeline.Cells

@[expose] public section
set_option maxRecDepth 16384
noncomputable section
namespace Cert.Kernel.Run
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the body is long: its run goes past the default budget
set_option maxHeartbeats 1000000 in
/-- One run of the body leaves its three input blocks as they were; what it leaves in the output buffers nothing names. -/
theorem kernelRun (c : Dev nD) (i : grid0.Coords) (arg1 : Memref sig .tc .vmem S32x16 .f32) (harg1 : arg1.IsWhole) (arg2 : Memref sig .tc .vmem S32x1 .f32) (harg2 : arg2.IsWhole) (arg3 : Memref sig .tc .vmem S16x100000 .f32) (harg3 : arg3.IsWhole) (arg4 : Memref sig .tc .vmem S32x100000 .f32) (harg4 : arg4.IsWhole) (arg5 : Memref sig .tc .vmem S1x3 .f32) (harg5 : arg5.IsWhole)
    (x0 : Vec F S32x16 .f32) (x1 : Vec F S32x1 .f32) (x2 : Vec F S16x100000 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)) -∗ K ⟨⟩))
          ⊢ wp frame (wpE (defs₀ (F := F)) Variants.none c none) E (cc0__fused_body i arg1 harg1 arg2 harg2 arg3 harg3 arg4 harg4 arg5 harg5) K := by
    intro E K
    simp only [cc0__fused_body_eq_skeleton]; unfold cc0__fused_body_skel
    simp only [k0_part45_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    iexists _, _; isplitr; swap; · iexact H4
    ipureintro; rfl

variable (m : (ℓ : Loc nD τ sig) → Buf (Elt F) ℓ) (ρ : Dev nD → PrngReg)

/-- The two output windows, whose contents nothing names. -/
def forgets0 : Fin 5 → Bool := fun w => decide (3 ≤ w.val)

/-- The launch's proof data on core `c`: after the body at point `t` the inputs' buffers hold their blocks, the outputs'
    anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare d)
    ∗ (∃ d, owns (c : Thread nD τ) (win0_4.stage (cfg0.slots t 4)) fullShare d))

/-- What the body hands back at point `t`. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (∃ d, owns (c : Thread nD τ) (win0_3.stage (cfg0.slots t 3)) fullShare d)
    ∗ (∃ d, owns (c : Thread nD τ) (win0_4.stage (cfg0.slots t 4)) fullShare d))

/-- The body at any point, by its run on the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩, ⟨%d3, H3⟩, ⟨%d4, H4⟩⟩
  iapply ((kernelRun c (grid0.coords t) _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at a point's slots. -/
theorem body_row (t : Fin cfg0.N) :
    defs₀ (F := F) .tc cfg0.body (cfg0.bodyArgs t (cfg0.slots t)) = bodyAt0 t := by
  unfold defs₀; rw [Defs.onTc_tc]

/-- The obligation of the launch: the body at every point. -/
theorem body_obligation (c : Dev nD) : BodyObligation (dats m 0 c) (defs₀ (F := F)) Variants.none () Set.univ forgets0 := fun t => by
  rw [bigSep_W0, bigSep_W0, body_row]
  exact triple_restated (sound_body m c t) rfl .rfl fun _ => .rfl

/-- The buffers that the host lines after the launch write: the three scalar results and the values on the way to them. -/
def tailSet : Finset (Ref sig .tc) :=
  {main_v4, main_v5, main_v6, main_cst, main_v7, main_v8, main_v9, main_cst_0, main_v10, main_v11, main_v12, main_cst_1, main_v13}

/-- The host lines after the launch write nothing else. -/
theorem tail_writes : ∀ ops ∈ ([hostOps1] : List (List (HloOp τ sig (Elt F)))), ∀ op ∈ ops, ∀ b : Ref sig .tc,
    Proc.devRef .tc b ∈ op.writes → b ∈ tailSet := by
  intro ops hops op hop b hb
  obtain rfl := List.mem_singleton.mp hops
  simp only [hostOps1, List.mem_cons, List.mem_nil_iff, or_false] at hop
  rcases hop with rfl | rfl | rfl | rfl | rfl | rfl | rfl | rfl | rfl | rfl | rfl | rfl | rfl
  all_goals
    simp only [StableHlo.nullary_writes, StableHlo.unary_writes, StableHlo.binary_writes, StableHlo.reshape_writes,
      Finset.mem_singleton] at hb
    obtain rfl := Proc.devRef_injective _ hb
    decide

-- the launch theorem's implicit arguments come from unifying its conclusion with this one
set_option backward.isDefEq.respectTransparency.types false in
/-- The program: every window's array ends at its contents after all points, every other buffer that the host lines after
    the launch do not write at its contents before it, every semaphore counter at zero. -/
theorem run_main : θ_run defs (onTc (τ := τ) (main (F := F))) (s₀ m ρ)
    (fun r => (Pipeline.RDat.FramePostR (cfgs 0) (fun c => (dats m 0 c).toRForget forgets0) tailSet (V m)) r ∧ r.2.sem = fun _ => 0) :=
  Pipeline.θ_run_frame_around_T_forget (Q' := _) cfgs (dats m) (0 : Fin 1) launch0 defs₀ Variants.none forgets0 tailSet m ρ main
    (hbody := fun c => (body_obligation m c).loose) (hshare := fun c => (dats m 0 c).share_full fun _ => rfl)
    (howed := fun _ _ => rfl) (V₀ := V0 m) (opss := [hostOps1]) (hsub := sfx_sub)
    (hfresh := sfx_fresh) (hkeep := sfx_keeps) (hT := tail_writes) (hmain := hmain m Variants.none) (hA := A_eq m) (hΦ := fun _ _ => rfl)

/-- The program ends with its arguments unchanged and its counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  refine (θ_run defs _ _).mono ?_ (run_main m ρ)
  rintro r ⟨h, hs⟩
  exact ⟨fun c => ⟨(Pipeline.RDat.FramePostR.arr_in h c 0 rfl).trans ((A_eq m c 0).trans (V_main_arg0 m c)),
    ((h c).2 main_arg1 (Finset.mem_sdiff.mpr ⟨Pipeline.mem_restRefs_of main_arg1 (by decide) (by decide), by decide⟩)).trans (V_main_arg1 m c),
    ((h c).2 main_arg2 (Finset.mem_sdiff.mpr ⟨Pipeline.mem_restRefs_of main_arg2 (by decide) (by decide), by decide⟩)).trans (V_main_arg2 m c)⟩, hs⟩

end Cert.Kernel.Run
end
-- ==== Proof.Sim.Block.lean ====
module
public import proofs.«01_k».proof.Proof.Gen.KernelIdeal.Skeleton
public import Idealize.ShloMosaic.PureOps.Ideal
public import Idealize.ShloMosaic.PureOps.Ideal.Laws
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.Pipeline.Value

@[expose] public section
set_option maxRecDepth 16384
noncomputable section
namespace Cert.KernelIdeal.Sim
open Cert.KernelIdeal Cert.KernelIdeal.Gen
open Idealize.ShloMosaic Idealize.ShloMosaic.ValueIdx

/-- A vector of sixteen numbers scaled by the reciprocal square root of its sum of squares. -/
def unitR (x : Fin 16 → Ideal .f32) (d : Fin 16) : Ideal .f32 := x d * Ideal.rsqrt (∑ e, x e * x e)

/-- The product of two vectors, each scaled to unit length by a reciprocal square root. -/
def simR (x w : Fin 16 → Ideal .f32) : Ideal .f32 := ∑ d, unitR x d * unitR w d

/-- A kernel's sum along the last axis of a matrix, at a row. -/
theorem rowSum_apply {a b : ℕ} (v : FVec Ideal ⟨2, ![a, b]⟩ .f32) (h : (⟨2, ![a, b]⟩ : Shape).Reduces [1] ⟨1, ![a]⟩)
    (hφ) (hacc) (r : Fin a) :
    multiReduction .add [1] ⟨1, ![a]⟩ v 0x00000000#32 h hφ hacc (ix1 r) = ∑ k : Fin b, v (ix2 r k) := by
  rw [Ideal.multiReduction_add_single]
  refine Finset.sum_congr rfl fun k _ => congrArg v ?_
  funext ax; apply Fin.ext
  match ax with
  | ⟨0, _⟩ => rfl
  | ⟨1, _⟩ => rfl

/-- A kernel's sum down the first axis of a matrix, at a column. -/
theorem colSum_apply {a b : ℕ} (v : FVec Ideal ⟨2, ![a, b]⟩ .f32) (h : (⟨2, ![a, b]⟩ : Shape).Reduces [0] ⟨1, ![b]⟩)
    (hφ) (hacc) (n : Fin b) :
    multiReduction .add [0] ⟨1, ![b]⟩ v 0x00000000#32 h hφ hacc (ix1 n) = ∑ k : Fin a, v (ix2 k n) := by
  rw [Ideal.multiReduction_add_single]
  refine Finset.sum_congr rfl fun k _ => congrArg v ?_
  funext ax; apply Fin.ext
  match ax with
  | ⟨0, _⟩ => rfl
  | ⟨1, _⟩ => rfl

/-- One column broadcast over many. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The normalised rows, at an entry. -/
theorem rows_apply (v0 : Vec Ideal S32x16 .f32) (r : Fin 32) (d : Fin 16) :
    k0_pay26 v0 (ix2 r d) = unitR (fun e => v0 (ix2 r e)) d := by
  unfold k0_pay26 unitR
  dsimp only
  rw [mulf_apply, broadcastTo_a1_ab_apply]
  show _ * Ideal.rsqrt (shapeCast S32x1 _ _ (ix2 r (0 : Fin 1))) = _
  rw [shapeCast_a_a1_apply]
  exact congrArg (fun s => v0 (ix2 r d) * Ideal.rsqrt s) (rowSum_apply (mulf v0 v0) reduces_S32x16_S32 (.inl rfl) rfl r)

/-- A block of columns normalised, at an entry, whatever the number of columns. -/
theorem cols_apply {n : ℕ} (w : FVec Ideal ⟨2, ![16, n]⟩ .f32)
    (hr : (⟨2, ![16, n]⟩ : Shape).Reduces [0] ⟨1, ![n]⟩) (hφ) (hacc)
    (hc : (⟨1, ![n]⟩ : Shape).ShapeCasts ⟨2, ![1, n]⟩) (hb : (⟨2, ![1, n]⟩ : Shape).Broadcasts ⟨2, ![16, n]⟩)
    (d : Fin 16) (c : Fin n) :
    mulf w (broadcastTo ⟨2, ![16, n]⟩ (rsqrt (shapeCast ⟨2, ![1, n]⟩
      (multiReduction .add [0] ⟨1, ![n]⟩ (mulf w w) 0x00000000#32 hr hφ hacc) hc)) hb) (ix2 d c)
      = unitR (fun e => w (ix2 e c)) d := by
  unfold unitR
  rw [mulf_apply, broadcastTo_1b_ab_apply]
  show _ * Ideal.rsqrt (shapeCast _ _ _ (ix2 (0 : Fin 1) c)) = _
  rw [shapeCast_a_1a_apply]
  exact congrArg (fun s => w (ix2 d c) * Ideal.rsqrt s) (colSum_apply (mulf w w) hr hφ hacc c)

/-- The product of normalised rows with normalised columns, at an entry. -/
theorem prod_apply {n : ℕ} (x : FVec Ideal ⟨2, ![32, 16]⟩ .f32) (w : FVec Ideal ⟨2, ![16, n]⟩ .f32)
    (xr : Fin 32 → Fin 16 → Ideal .f32) (wc : Fin n → Fin 16 → Ideal .f32)
    (hx : ∀ r d, x (ix2 r d) = unitR (xr r) d) (hw : ∀ d c, w (ix2 d c) = unitR (wc c) d) (r : Fin 32) (c : Fin n) :
    matmul (DotDims.plain 32 16 n) none x w (constant _ .f32 0x00000000#32) (ix2 r c) = simR (xr r) (wc c) := by
  refine (Ideal.matmul_plain_apply none x w _ r c).trans ?_
  rw [constant_apply, Ideal.ofBits_zero_f32, zero_add]
  exact Finset.sum_congr rfl fun d _ => by rw [hx, hw]

/-- A full chunk's payload at an entry. -/
theorem chunk_apply (v0 : Vec Ideal S32x16 .f32) (w : Vec Ideal S16x32768 .f32) (r : Fin 32) (c : Fin 32768) :
    k0_pay27 v0 w (ix2 r c) = simR (fun d => v0 (ix2 r d)) (fun d => w (ix2 d c)) := by
  unfold k0_pay27
  dsimp only
  rw [shapeCast_self]
  exact prod_apply _ _ _ (fun c d => w (ix2 d c)) (rows_apply v0) (fun d c => cols_apply w _ _ _ _ _ d c) r c

/-- The tail chunk's payload at an entry. -/
theorem tail_apply (v0 : Vec Ideal S32x16 .f32) (w : Vec Ideal S16x1696 .f32) (r : Fin 32) (c : Fin 1696) :
    k0_pay28 v0 w (ix2 r c) = simR (fun d => v0 (ix2 r d)) (fun d => w (ix2 d c)) := by
  unfold k0_pay28
  dsimp only
  rw [shapeCast_self]
  exact prod_apply _ _ _ (fun c d => w (ix2 d c)) (rows_apply v0) (fun d c => cols_apply w _ _ _ _ _ d c) r c

end Cert.KernelIdeal.Sim
end
-- ==== Proof.Sim.Body.lean ====
module
public import proofs.«01_k».proof.Proof.Sim.Block
public import proofs.«01_k».proof.Proof.Gen.KernelIdeal.Frame
public import proofs.«01_k».proof.Proof.Gen.KernelIdeal.Loops
public import Idealize.ShloMosaic.Lib.VecWindow
public import Idealize.ShloMosaic.Lib.Claim

@[expose] public section
set_option maxRecDepth 16384
noncomputable section
namespace Cert.KernelIdeal.Sim
open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The block of similarities of a block of 32 points with the whole transposed bank. -/
def simBlock (x : Vec Ideal S32x16 .f32) (w : Vec Ideal S16x100000 .f32) : Vec Ideal S32x100000 .f32 :=
  fun i => simR (fun d => x (ix2 (i 0) d)) (fun d => w (ix2 d (i 1)))

/-- Trip `k` of the storing loop stores columns `32768 k …` of the block of similarities. -/
theorem trip_piece (x : Vec Ideal S32x16 .f32) (w : Vec Ideal S16x100000 .f32) (k : Fin k0_t1_loop.trips) (y : S32x32768.Idx) :
    k0_pay27 x (fun z : S16x32768.Idx => w ((Rect.unit (s := S16x100000) (k0_off1 k) S16x32768.size (k0_off1_inb k)).emb z)) y
      = simBlock x w ((Rect.unit (s := S32x100000) (k0_off2 k) S32x32768.size (k0_off2_inb k)).emb y) := by
  obtain ⟨r, c, rfl⟩ : ∃ r c, y = ix2 (n0 := 32) (n1 := 32768) r c := ⟨_, _, eq_ix2 y⟩
  rw [chunk_apply]
  unfold simBlock
  have o1 : k0_off1 k = ![0, 32768 * k.val] := k0_off1_eq k
  have o2 : k0_off2 k = ![0, 32768 * k.val] := k0_off2_eq k
  congr 1
  · funext d
    refine congrArg x (funext fun a => Fin.ext ?_)
    match a with
    | ⟨0, _⟩ => show r.val = k0_off2 k 0 + 1 * r.val; rw [o2]; simp
    | ⟨1, _⟩ => rfl
  · funext d
    refine congrArg w (funext fun a => Fin.ext ?_)
    match a with
    | ⟨0, _⟩ => show k0_off1 k 0 + 1 * d.val = d.val; rw [o1]; simp
    | ⟨1, _⟩ => show k0_off1 k 1 + 1 * c.val = k0_off2 k 1 + 1 * c.val; rw [o1, o2]

/-- The store after the loop stores the last 1696 columns of the block of similarities. -/
theorem tail_piece (x : Vec Ideal S32x16 .f32) (w : Vec Ideal S16x100000 .f32) (y : S32x1696.Idx) :
    k0_pay28 x (fun z : S16x1696.Idx => w ((Rect.unit (s := S16x100000) ![0, 98304] S16x1696.size inb_S16x100000_S16x1696_0_98304).emb z)) y
      = simBlock x w ((Rect.unit (s := S32x100000) ![0, 98304] S32x1696.size inb_S32x100000_S32x1696_0_98304).emb y) := by
  obtain ⟨r, c, rfl⟩ : ∃ r c, y = ix2 (n0 := 32) (n1 := 1696) r c := ⟨_, _, eq_ix2 y⟩
  rw [tail_apply]
  unfold simBlock
  congr 1
  · funext d
    refine congrArg x (funext fun a => Fin.ext ?_)
    match a with
    | ⟨0, _⟩ => show r.val = 0 + 1 * r.val; omega
    | ⟨1, _⟩ => rfl
  · funext d
    refine congrArg w (funext fun a => Fin.ext ?_)
    match a with
    | ⟨0, _⟩ => show 0 + 1 * d.val = d.val; omega
    | ⟨1, _⟩ => rfl

section Pieces
variable (c : Dev nD) (i : grid0.Coords) (arg1 : Memref sig .tc .vmem S32x16 .f32) (harg1 : arg1.IsWhole) (arg2 : Memref sig .tc .vmem S32x1 .f32) (harg2 : arg2.IsWhole) (arg3 : Memref sig .tc .vmem S16x100000 .f32) (harg3 : arg3.IsWhole) (arg4 : Memref sig .tc .vmem S32x100000 .f32) (harg4 : arg4.IsWhole) (arg5 : Memref sig .tc .vmem S1x3 .f32) (harg5 : arg5.IsWhole)
  (x0 : Vec Ideal S32x16 .f32) (x2 : Vec Ideal S16x100000 .f32)

/-- The one piece that trip `k` stores. -/
theorem trip_pieces (k : Fin k0_t1_loop.trips) :
    tripL_k0_t1 (F := Ideal) Variants.none c none i arg1 harg1 arg2 harg2 arg3 harg3 arg4 harg4 arg5 harg5 x0 (harg3.unread x2) k
      = [⟨Rect.unit (s := S32x100000) (k0_off2 k) S32x32768.size (k0_off2_inb k),
          k0_pay27 x0 (fun z : S16x32768.Idx => x2 ((Rect.unit (s := S16x100000) (k0_off1 k) S16x32768.size (k0_off1_inb k)).emb z))⟩] := by
  have h : View.readAt (Elt Ideal) arg3.view (Rect.unit (s := S16x100000) (k0_off1 k) S16x32768.size (k0_off1_inb k)).toLoadRect (harg3.unread x2)
      = fun z : S16x32768.Idx => x2 ((Rect.unit (s := S16x100000) (k0_off1 k) S16x32768.size (k0_off1_inb k)).emb z) :=
    funext fun z => congrFun (harg3.read_unread x2) _
  unfold tripL_k0_t1 trip_k0_t1
  rw [← h]

/-- Every piece stored before trip `n` is one trip's, and each of those trips' pieces is there. -/
theorem pieces_before (n : ℕ) (hn : n ≤ k0_t1_loop.trips) :
    (∀ p ∈ pb_k0_t1 (F := Ideal) Variants.none c none i arg1 harg1 arg2 harg2 arg3 harg3 arg4 harg4 arg5 harg5 x0 (harg3.unread x2) n,
        ∀ y : p.1.shape.Idx, p.2 y = simBlock x0 x2 (p.1.emb y))
      ∧ ∀ k : Fin k0_t1_loop.trips, k.val < n →
        ∃ p ∈ pb_k0_t1 (F := Ideal) Variants.none c none i arg1 harg1 arg2 harg2 arg3 harg3 arg4 harg4 arg5 harg5 x0 (harg3.unread x2) n,
          p.1 = Rect.unit (s := S32x100000) (k0_off2 k) S32x32768.size (k0_off2_inb k) := by
  induction n with
  | zero => exact ⟨fun p hp => absurd hp List.not_mem_nil, fun k hk => absurd hk (Nat.not_lt_zero _)⟩
  | succ n ih =>
    obtain ⟨ih1, ih2⟩ := ih (Nat.le_of_succ_le hn)
    have e := pb_k0_t1_succ (F := Ideal) Variants.none c none i arg1 harg1 arg2 harg2 arg3 harg3 arg4 harg4 arg5 harg5 x0 (harg3.unread x2) ⟨n, hn⟩
    rw [trip_pieces] at e
    rw [e]
    refine ⟨fun p hp => ?_, fun k hk => ?_⟩
    · rcases List.mem_cons.mp hp with rfl | hp
      · exact trip_piece x0 x2 ⟨n, hn⟩
      · exact ih1 p hp
    · rcases Nat.lt_succ_iff_lt_or_eq.mp hk with h | h
      · obtain ⟨p, hp, hr⟩ := ih2 k h
        exact ⟨p, List.mem_cons_of_mem _ hp, hr⟩
      · obtain rfl : k = ⟨n, hn⟩ := Fin.ext h
        exact ⟨_, List.mem_cons_self, rfl⟩

/-- The loop makes three trips. -/
theorem trips_eq : k0_t1_loop.trips = 3 := by decide +kernel

/-- After the loop and the store that follows it, the buffer holds the block of similarities. -/
theorem read_pieces (f : BufTy.Contents (Elt Ideal) arg4.view.ty) :
    View.read (Elt Ideal) arg4.view (arg4.view.writes (Elt Ideal) f
        (⟨Rect.unit (s := S32x100000) ![0, 98304] S32x1696.size inb_S32x100000_S32x1696_0_98304,
            k0_pay28 (View.readAt (Elt Ideal) arg1.view (Rect.unit (s := S32x16) ![0, 0] S32x16.size inb_S32x16_S32x16_0_0).toLoadRect (harg1.unread x0))
              (View.readAt (Elt Ideal) arg3.view
                (Rect.unit (s := S16x100000) ![0, 98304] S16x1696.size inb_S16x100000_S16x1696_0_98304).toLoadRect (harg3.unread x2))⟩ ::
          pb_k0_t1 Variants.none c none i arg1 harg1 arg2 harg2 arg3 harg3 arg4 harg4 arg5 harg5
            (View.readAt (Elt Ideal) arg1.view (Rect.unit (s := S32x16) ![0, 0] S32x16.size inb_S32x16_S32x16_0_0).toLoadRect (harg1.unread x0))
            (harg3.unread x2) (Scf.trips k0_t1_loop.lb k0_t1_loop.ub k0_t1_loop.st))) = simBlock x0 x2 := by
  have h0 : View.readAt (Elt Ideal) arg1.view (Rect.unit (s := S32x16) ![0, 0] S32x16.size inb_S32x16_S32x16_0_0).toLoadRect (harg1.unread x0) = x0 :=
    (View.readAt_full arg1.view _ _).trans (harg1.read_unread x0)
  have h2 : View.readAt (Elt Ideal) arg3.view (Rect.unit (s := S16x100000) ![0, 98304] S16x1696.size inb_S16x100000_S16x1696_0_98304).toLoadRect (harg3.unread x2)
      = fun z : S16x1696.Idx => x2 ((Rect.unit (s := S16x100000) ![0, 98304] S16x1696.size inb_S16x100000_S16x1696_0_98304).emb z) :=
    funext fun z => congrFun (harg3.read_unread x2) _
  rw [h0, h2]
  obtain ⟨hp, hc⟩ := pieces_before c i arg1 harg1 arg2 harg2 arg3 harg3 arg4 harg4 arg5 harg5 x0 x2 k0_t1_loop.trips le_rfl
  funext y
  refine View.read_writes_apply_of_pieces arg4.view f (simBlock x0 x2) _ (fun p h => ?_) y ?_
  · rcases List.mem_cons.mp h with rfl | h
    · exact tail_piece x0 x2
    · exact hp p h
  · have hy0 : (y 0).val < 32 := (y 0).isLt
    have hy1 : (y 1).val < 100000 := (y 1).isLt
    by_cases ht : 98304 ≤ (y 1).val
    · refine ⟨_, List.mem_cons_self, ?_⟩
      rw [Rect.mem_set_unit]
      intro a
      match a with
      | ⟨0, _⟩ => exact ⟨Nat.zero_le _, by show (y 0).val < 0 + 32; omega⟩
      | ⟨1, _⟩ => exact ⟨ht, by show (y 1).val < 98304 + 1696; omega⟩
    · have hk : (y 1).val / 32768 < k0_t1_loop.trips := by rw [trips_eq]; omega
      obtain ⟨p, hm, hr⟩ := hc ⟨(y 1).val / 32768, hk⟩ hk
      refine ⟨p, List.mem_cons_of_mem _ hm, ?_⟩
      rw [hr, Rect.mem_set_unit, show k0_off2 ⟨(y 1).val / 32768, hk⟩ = ![0, 32768 * ((y 1).val / 32768)] from k0_off2_eq _]
      intro a
      match a with
      | ⟨0, _⟩ => exact ⟨Nat.zero_le _, by show (y 0).val < 0 + 32; omega⟩
      | ⟨1, _⟩ =>
        exact ⟨by show 32768 * ((y 1).val / 32768) ≤ (y 1).val; omega,
          by show (y 1).val < 32768 * ((y 1).val / 32768) + 32768; omega⟩

end Pieces

-- the body is long: its run goes past the default budget
set_option maxHeartbeats 1000000 in
/-- One run of the body: from the three input blocks and two output buffers at any contents, the first output buffer ends
    at the block of similarities, the second at contents nothing names, the inputs as they were. -/
theorem kernelRun (c : Dev nD) (i : grid0.Coords) (arg1 : Memref sig .tc .vmem S32x16 .f32) (harg1 : arg1.IsWhole) (arg2 : Memref sig .tc .vmem S32x1 .f32) (harg2 : arg2.IsWhole) (arg3 : Memref sig .tc .vmem S16x100000 .f32) (harg3 : arg3.IsWhole) (arg4 : Memref sig .tc .vmem S32x100000 .f32) (harg4 : arg4.IsWhole) (arg5 : Memref sig .tc .vmem S1x3 .f32) (harg5 : arg5.IsWhole)
    (x0 : Vec Ideal S32x16 .f32) (x1 : Vec Ideal S32x1 .f32) (x2 : Vec Ideal S16x100000 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare (simBlock x0 x2) ∗ (∃ d, owns (c : Thread nD τ) arg5 fullShare d)) -∗ K ⟨⟩))
          ⊢ wp frame (wpE (defs₀ (F := Ideal)) Variants.none c none) E (cc0__fused_body i arg1 harg1 arg2 harg2 arg3 harg3 arg4 harg4 arg5 harg5) K := by
    intro E K
    simp only [cc0__fused_body_eq_skeleton]; unfold cc0__fused_body_skel
    simp only [k0_part45_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      exact read_pieces c i arg1 harg1 arg2 harg2 arg3 harg3 arg4 harg4 arg5 harg5 x0 x2 _
    iexists _, _; isplitr; swap; · iexact H4
    ipureintro; rfl

end Cert.KernelIdeal.Sim
end
-- ==== Proof.Sim.Run.lean ====
module
public import proofs.«01_k».proof.Proof.Sim.Body

@[expose] public section
set_option maxRecDepth 16384
noncomputable section
namespace Cert.KernelIdeal.Sim
open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The one output window whose contents nothing names: the running totals. -/
def forgets0 : Fin 5 → Bool := fun w => w.val == 4

/-- The launch's proof data on core `c`: after the body at point `t` the inputs' buffers hold their blocks, the first
    output's the block of similarities of the point's rows with the bank, the second output's anything. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => simBlock (iblk m c 0 t) (iblk m c 2 t)
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = simBlock (iblk m c 0 t) (iblk m c 2 t) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare d))

/-- What the body hands back at point `t`. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ (∃ d, owns (c : Thread nD τ) (win0_4.stage (cfg0.slots t 4)) fullShare d))

/-- The body at any point, by its run on the point's blocks. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩, ⟨%d4, H4⟩⟩
  iapply ((kernelRun c (grid0.coords t) _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at a point's slots. -/
theorem body_row (t : Fin cfg0.N) :
    defs₀ (F := Ideal) .tc cfg0.body (cfg0.bodyArgs t (cfg0.slots t)) = bodyAt0 t := by
  unfold defs₀; rw [Defs.onTc_tc]

/-- The obligation of the launch: the body at every point. -/
theorem body_obligation (c : Dev nD) : BodyObligation (dats m 0 c) (defs₀ (F := Ideal)) Variants.none () Set.univ forgets0 := fun t => by
  rw [bigSep_W0, bigSep_W0, body_row]
  exact triple_restated (sound_body m c t) rfl .rfl fun _ => .rfl

/-- The buffers that the host lines after the launch write: the three scalar results and the values on the way to them. -/
def tailSet : Finset (Ref sig .tc) :=
  {main_v4, main_v5, main_v6, main_cst, main_v7, main_v8, main_v9, main_cst_0, main_v10, main_v11, main_v12, main_cst_1, main_v13}

/-- The host lines after the launch write nothing else. -/
theorem tail_writes : ∀ ops ∈ ([hostOps1] : List (List (HloOp τ sig (Elt Ideal)))), ∀ op ∈ ops, ∀ b : Ref sig .tc,
    Proc.devRef .tc b ∈ op.writes → b ∈ tailSet := by
  intro ops hops op hop b hb
  obtain rfl := List.mem_singleton.mp hops
  simp only [hostOps1, List.mem_cons, List.mem_nil_iff, or_false] at hop
  rcases hop with rfl | rfl | rfl | rfl | rfl | rfl | rfl | rfl | rfl | rfl | rfl | rfl | rfl
  all_goals
    simp only [StableHlo.nullary_writes, StableHlo.unary_writes, StableHlo.binary_writes, StableHlo.reshape_writes,
      Finset.mem_singleton] at hb
    obtain rfl := Proc.devRef_injective _ hb
    decide

-- the launch theorem's implicit arguments come from unifying its conclusion with this one
set_option backward.isDefEq.respectTransparency.types false in
/-- The program: every window's array ends at its contents after all points, every other buffer that the host lines after
    the launch do not write at its contents before it, every semaphore counter at zero. -/
theorem run_main : θ_run defs (onTc (τ := τ) (main (F := Ideal))) (s₀ m ρ)
    (fun r => (Pipeline.RDat.FramePostR (cfgs 0) (fun c => (dats m 0 c).toRForget forgets0) tailSet (V m)) r ∧ r.2.sem = fun _ => 0) :=
  Pipeline.θ_run_frame_around_T_forget (Q' := _) cfgs (dats m) (0 : Fin 1) launch0 defs₀ Variants.none forgets0 tailSet m ρ main
    (hbody := fun c => (body_obligation m c).loose) (hshare := fun c => (dats m 0 c).share_full fun _ => rfl)
    (howed := fun _ _ => rfl) (V₀ := V0 m) (opss := [hostOps1]) (hsub := sfx_sub)
    (hfresh := sfx_fresh) (hkeep := sfx_keeps) (hT := tail_writes) (hmain := hmain m Variants.none) (hA := A_eq m) (hΦ := fun _ _ => rfl)

end Cert.KernelIdeal.Sim
end
-- ==== Proof.Sim.Array.lean ====
module
public import proofs.«01_k».proof.Proof.Sim.Run
public import Idealize.ShloMosaic.Lib.StableHlo.Run

@[expose] public section
set_option maxRecDepth 16384
noncomputable section
namespace Cert.KernelIdeal.Sim
open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- All similarities: each row of the points with each row of the bank, both scaled to unit length. -/
def simAll (p : Vec Ideal S1024x16 .f32) (w : Vec Ideal S100000x16 .f32) : Vec Ideal S1024x100000 .f32 :=
  fun i => simR (fun d => p (ix2 (i 0) d)) (fun d => w (ix2 (i 1) d))

/-- The region finds the bank transposed. -/
theorem V_bank (c : Dev nD) :
    V m c main_v0 = transpose S16x100000 [1, 0] (m ((c : Thread nD τ).loc main_arg2)) transposes_S100000x16_S16x100000_1_0 := by
  show StableHlo.after hostOps0 (fun b => m (c, b)) (Proc.devRef .tc main_v0) = _
  unfold hostOps0
  after_results

theorem index_0 : ∀ t : Fin cfg0.N, win0_0.index t 0 = t.val ∧ win0_0.index t 1 = 0 := by decide +kernel
theorem index_2 : ∀ t : Fin cfg0.N, win0_2.index t 0 = 0 ∧ win0_2.index t 1 = 0 := by decide +kernel
theorem index_3 : ∀ t : Fin cfg0.N, win0_3.index t 0 = t.val ∧ win0_3.index t 1 = 0 := by decide +kernel

/-- Point `t`'s block of points holds rows `32 t …` of the points. -/
theorem points_block (c : Dev nD) (t : Fin cfg0.N) (r : Fin 32) (d : Fin 16) (R : Fin 1024) (hR : R.val = t.val * 32 + r.val) :
    (iblk m c 0 t : Vec Ideal S32x16 .f32) (ix2 r d) = m ((c : Thread nD τ).loc main_arg0) (ix2 R d) := by
  show V m c main_arg0 (((cfg0.win 0).blk t).view.emb (ix2 r d)) = _
  rw [V_main_arg0]
  refine congrArg (m ((c : Thread nD τ).loc main_arg0)) (funext fun a => Fin.ext ?_)
  match a with
  | ⟨0, _⟩ => show win0_0.index t 0 * 32 + 1 * r.val = R.val; rw [(index_0 t).1]; omega
  | ⟨1, _⟩ => show win0_0.index t 1 * 16 + 1 * d.val = d.val; rw [(index_0 t).2]; omega

/-- Every point's bank block is the whole transposed bank. -/
theorem bank_block (c : Dev nD) (t : Fin cfg0.N) (d : Fin 16) (n : Fin 100000) :
    (iblk m c 2 t : Vec Ideal S16x100000 .f32) (ix2 d n) = m ((c : Thread nD τ).loc main_arg2) (ix2 n d) := by
  show V m c main_v0 (((cfg0.win 2).blk t).view.emb (ix2 d n)) = _
  have e : ((cfg0.win 2).blk t).view.emb (ix2 d n) = (ix2 d n : S16x100000.Idx) := funext fun a => Fin.ext (by
    match a with
    | ⟨0, _⟩ => show win0_2.index t 0 * 16 + 1 * d.val = d.val; rw [(index_2 t).1]; omega
    | ⟨1, _⟩ => show win0_2.index t 1 * 100000 + 1 * n.val = n.val; rw [(index_2 t).2]; omega)
  rw [e, V_bank]
  exact transpose_ix2_apply _ _ _ _

/-- What point `t` writes back is its block of all the similarities. -/
theorem flushed_eq (c : Dev nD) (t : Fin cfg0.N) :
    (dats m 0 c).flushed 3 t = ((cfg0.win 3).blk t).view.read (Elt Ideal)
      (simAll (m ((c : Thread nD τ).loc main_arg0)) (m ((c : Thread nD τ).loc main_arg2))) := by
  show (cfg0.win 3).cut (grid0.coords t) ((dats m 0 c).after 3 t) = _
  rw [after_3]
  funext j
  obtain ⟨r, n, rfl⟩ : ∃ r n, j = ix2 (n0 := 32) (n1 := 100000) r n := ⟨_, _, eq_ix2 j⟩
  have ht : t.val < 32 := lt_of_lt_of_eq t.isLt N_0
  have hr := r.isLt
  have e : ((cfg0.win 3).blk t).view.emb (ix2 r n) = (ix2 (⟨t.val * 32 + r.val, by omega⟩ : Fin 1024) n : S1024x100000.Idx) :=
    funext fun a => Fin.ext (by
      match a with
      | ⟨0, _⟩ => show win0_3.index t 0 * 32 + 1 * r.val = t.val * 32 + r.val; rw [(index_3 t).1]; omega
      | ⟨1, _⟩ => show win0_3.index t 1 * 100000 + 1 * n.val = n.val; rw [(index_3 t).2]; omega)
  show simR (fun d => (iblk m c 0 t : Vec Ideal S32x16 .f32) (ix2 r d)) (fun d => (iblk m c 2 t : Vec Ideal S16x100000 .f32) (ix2 d n))
    = simAll _ _ (((cfg0.win 3).blk t).view.emb (ix2 r n))
  rw [e]
  show _ = simR (fun d => m ((c : Thread nD τ).loc main_arg0) (ix2 (⟨t.val * 32 + r.val, by omega⟩ : Fin 1024) d))
    (fun d => m ((c : Thread nD τ).loc main_arg2) (ix2 n d))
  congr 1
  · exact funext fun d => points_block m c t r d _ rfl
  · exact funext fun d => bank_block m c t d n

/-- An index lies in point `t`'s block of the result if its row is one of the point's 32. -/
theorem mem_block (t : Fin cfg0.N) (i : S1024x100000.Idx) (h : t.val * 32 ≤ (i 0).val ∧ (i 0).val < t.val * 32 + 32) :
    i ∈ ((cfg0.win 3).blk t).view.set := by
  show i ∈ ((View.whole main_v3_0).slice (win0_3.rect t)).set
  rw [View.set_slice_whole, Rect.mem_set_unit]
  have h1 : (i 1).val < 100000 := (i 1).isLt
  intro a
  match a with
  | ⟨0, _⟩ => show win0_3.index t 0 * 32 ≤ (i 0).val ∧ (i 0).val < win0_3.index t 0 * 32 + 32; rw [(index_3 t).1]; exact h
  | ⟨1, _⟩ => show win0_3.index t 1 * 100000 ≤ (i 1).val ∧ (i 1).val < win0_3.index t 1 * 100000 + 100000; rw [(index_3 t).2, Nat.zero_mul, Nat.zero_add]; exact ⟨Nat.zero_le _, h1⟩

/-- After all points the first result array holds all the similarities. -/
theorem arr_eq (c : Dev nD) :
    (dats m 0 c).arrAt 3 cfg0.N = simAll (m ((c : Thread nD τ).loc main_arg0)) (m ((c : Thread nD τ).loc main_arg2)) :=
  (dats m 0 c).arrAt_eq_of_cover 3 _ (fun t _ => flushed_eq m c t) fun i => by
    have h0 : (i 0).val < 1024 := (i 0).isLt
    have hN : cfg0.N = 32 := N_0
    exact ⟨⟨(i 0).val / 32, by omega⟩, flush0_3 _, mem_block _ i ⟨by show (i 0).val / 32 * 32 ≤ _; omega, by show _ < (i 0).val / 32 * 32 + 32; omega⟩⟩

end Cert.KernelIdeal.Sim
end
-- ==== Proof.Sim.Final.lean ====
module
public import proofs.«01_k».proof.Proof.Sim.Array

@[expose] public section
set_option maxRecDepth 16384
noncomputable section
namespace Cert.KernelIdeal.Sim
open Cert.KernelIdeal Cert.KernelIdeal.Gen
open Idealize.ShloMosaic Idealize.ShloMosaic.TcCoe Idealize.ShloMosaic.ValueIdx Idealize.SL.Sem

/-- The program over the extended reals ends with all the similarities in its first result, its arguments unchanged and its
    counters at zero. -/
theorem run_value (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v3_0) = simAll (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  refine (θ_run defs _ _).mono ?_ (run_main m ρ)
  rintro r ⟨h, hs⟩
  refine ⟨fun c => ⟨?_, (Pipeline.RDat.FramePostR.arr_in h c 0 rfl).trans ((A_eq m c 0).trans (V_main_arg0 m c)),
    ((h c).2 main_arg1 (Finset.mem_sdiff.mpr ⟨Pipeline.mem_restRefs_of main_arg1 (by decide) (by decide), by decide⟩)).trans (V_main_arg1 m c),
    ((h c).2 main_arg2 (Finset.mem_sdiff.mpr ⟨Pipeline.mem_restRefs_of main_arg2 (by decide) (by decide), by decide⟩)).trans (V_main_arg2 m c)⟩, hs⟩
  exact (((dats m 0 c).toRForget_arrAt_iff (fgt := forgets0) (w := 3) rfl _ _).mp ((h c).1 3)).trans (arr_eq m c)

end Cert.KernelIdeal.Sim
end
-- ==== Proof.Sim.Ref.lean ====
module
public import proofs.«01_k».proof.Proof.Sim.Block
public import proofs.«01_k».proof.Proof.Gen.ReferenceIdeal
public import proofs.«01_k».proof.On_nonzero_rows
public import Idealize.ShloMosaic.Lib.StackMember

@[expose] public section
set_option maxRecDepth 16384
noncomputable section
namespace Cert.ReferenceIdeal.Sim
open Cert.ReferenceIdeal Cert.ReferenceIdeal.Gen Cert.KernelIdeal.Sim
open Idealize.ShloMosaic Idealize.ShloMosaic.ValueIdx

/-- A vector of sixteen numbers divided by the square root of its sum of squares. -/
def unitD (x : Fin 16 → Ideal .f32) (d : Fin 16) : Ideal .f32 := Ideal.div (x d) (Ideal.sqrt (∑ e, x e * x e))

/-- The product of two vectors, each divided by its length. -/
def simD (x w : Fin 16 → Ideal .f32) : Ideal .f32 := ∑ d, unitD x d * unitD w d

/-- Multiplying by the reciprocal square root of a positive number is dividing by its square root. -/
theorem mul_rsqrt (x s : EReal) (hs : 0 < s) : x * Ideal.rsqrt s = Ideal.div x (Ideal.sqrt s) := by
  induction s with
  | bot => exact absurd hs (by simp)
  | top =>
    rw [Ideal.rsqrt_top, Ideal.sqrt_top, Ideal.div, if_neg (by simp), EReal.inv_top]
  | coe r =>
    have hr : 0 < r := by exact_mod_cast hs
    have hq : Real.sqrt r ≠ 0 := (Real.sqrt_pos.mpr hr).ne'
    rw [Ideal.rsqrt_coe, Ideal.sqrt_coe, if_neg hr.not_gt, if_neg hr.ne', if_neg hr.not_gt, Ideal.div_coe hq, one_div]

theorem unitR_eq (x : Fin 16 → Ideal .f32) (h : (0 : EReal) < ∑ e, x e * x e) (d : Fin 16) : unitR x d = unitD x d :=
  mul_rsqrt (x d) _ h

theorem simR_eq (x w : Fin 16 → Ideal .f32) (hx : (0 : EReal) < ∑ e, x e * x e) (hw : (0 : EReal) < ∑ e, w e * w e) :
    simR x w = simD x w :=
  Finset.sum_congr rfl fun d _ => by rw [unitR_eq x hx, unitR_eq w hw]

/-- The host's sum along the last axis of a matrix from zero, at a row. -/
theorem hostRowSum_apply {a b : ℕ} (v : FVec Ideal ⟨2, ![a, b]⟩ .f32) (h' : (⟨2, ![a, b]⟩ : Shape).ReducesTo [1] ⟨1, ![a]⟩)
    (hu) (r : Fin a) :
    Host.reduceAdd v (constant (F := Ideal) ⟨0, ![]⟩ .f32 0x00000000#32) h' hu (ix1 r) = ∑ k : Fin b, v (ix2 r k) := by
  have h : (⟨2, ![a, b]⟩ : Shape).Reduces [1] ⟨1, ![a]⟩ := ⟨h'.1, Nat.one_pos, h'.2⟩
  show Ideal.hostReduceAdd _ _ _ _ = _
  rw [Ideal.hostReduceAdd_single h' h, constant_apply, Ideal.ofBits_zero_f32, zero_add]
  refine Finset.sum_congr rfl fun k _ => congrArg v ?_
  funext ax; apply Fin.ext
  match ax with
  | ⟨0, _⟩ => rfl
  | ⟨1, _⟩ => rfl

/-- A vector laid out as one column, at an entry. -/
theorem asColumn_apply {α : Type} {a : ℕ} (x : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h x (ix2 r u) = x (ix1 r) :=
  broadcastInDim_apply _ h x _ _ fun ax => by
    match ax with
    | ⟨0, _⟩ =>
      show r.val = if a = 1 then 0 else r.val
      split
      · have := r.isLt; omega
      · rfl

/-- A vector laid out as one row, at an entry. -/
theorem asRow_apply {α : Type} {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) :=
  broadcastInDim_apply _ h x _ _ fun ax => by
    match ax with
    | ⟨0, _⟩ =>
      show c.val = if b = 1 then 0 else c.val
      split
      · have := c.isLt; omega
      · rfl

/-- One column repeated along the rows, at an entry. -/
theorem column_apply {α : Type} {a b : ℕ} (x : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h x (ix2 r c) = x (ix2 r (0 : Fin 1)) :=
  broadcastInDim_apply _ h x _ _ fun ax => by
    match ax with
    | ⟨0, _⟩ =>
      show r.val = if a = 1 then 0 else r.val
      split
      · have := r.isLt; omega
      · rfl
    | ⟨1, _⟩ => rfl

/-- One row repeated down the columns, at an entry. -/
theorem row_apply {α : Type} {a b : ℕ} (x : (⟨2, ![1, b]⟩ : Shape).Idx → α)
    (h : (⟨2, ![1, b]⟩ : Shape).BroadcastsInDim ⟨2, ![a, b]⟩ ![0, 1]) (r : Fin a) (c : Fin b) :
    broadcastInDim ⟨2, ![a, b]⟩ ![0, 1] h x (ix2 r c) = x (ix2 (0 : Fin 1) c) :=
  broadcastInDim_apply _ h x _ _ fun ax => by
    match ax with
    | ⟨0, _⟩ => rfl
    | ⟨1, _⟩ =>
      show c.val = if b = 1 then 0 else c.val
      split
      · have := c.isLt; omega
      · rfl

/-- A matrix's rows divided by their lengths, at an entry, whatever the number of rows. -/
theorem unitRows_apply {n : ℕ} (x : FVec Ideal ⟨2, ![n, 16]⟩ .f32) (h1 : (⟨2, ![n, 16]⟩ : Shape).ReducesTo [1] ⟨1, ![n]⟩) (hu)
    (h2 : (⟨1, ![n]⟩ : Shape).BroadcastsInDim ⟨2, ![n, 1]⟩ ![0]) (h3 : (⟨2, ![n, 1]⟩ : Shape).BroadcastsInDim ⟨2, ![n, 16]⟩ ![0, 1])
    (r : Fin n) (d : Fin 16) :
    Host.divf x (broadcastInDim ⟨2, ![n, 16]⟩ ![0, 1] h3 (Host.sqrt (broadcastInDim ⟨2, ![n, 1]⟩ ![0] h2
      (Host.reduceAdd (mulf x x) (constant (F := Ideal) ⟨0, ![]⟩ .f32 0x00000000#32) h1 hu)))) (ix2 r d)
      = unitD (fun e => x (ix2 r e)) d := by
  show Ideal.div (x (ix2 r d)) (broadcastInDim _ _ _ _ (ix2 r d)) = _
  rw [column_apply]
  show Ideal.div (x (ix2 r d)) (Ideal.sqrt (broadcastInDim _ _ _ _ (ix2 r (0 : Fin 1)))) = _
  rw [asColumn_apply, hostRowSum_apply]
  rfl

/-- The reference's product at an entry. -/
theorem sims_apply (p : FVec Ideal S1024x16 .f32) (w : FVec Ideal S100000x16 .f32) (r : Fin 1024) (c : Fin 100000) :
    Host.dotGeneral dot_S1024x16_S16x100000_S1024x100000_1_0_0_1_n_n none
      (Host.divf p (broadcastInDim S1024x16 ![0, 1] bcast_S1024x1_S1024x16_0_1 (Host.sqrt (broadcastInDim S1024x1 ![0] bcast_S1024_S1024x1_0
        (Host.reduceAdd (mulf p p) (constant (F := Ideal) S_ .f32 0x00000000#32) reducesTo_S1024x16_S1024_d1 h_S_)))))
      (transpose S16x100000 [1, 0] (Host.divf w (broadcastInDim S100000x16 ![0, 1] bcast_S100000x1_S100000x16_0_1 (Host.sqrt
        (broadcastInDim S100000x1 ![0] bcast_S100000_S100000x1_0
        (Host.reduceAdd (mulf w w) (constant (F := Ideal) S_ .f32 0x00000000#32) reducesTo_S100000x16_S100000_d1 h_S_)))))
        transposes_S100000x16_S16x100000_1_0) (ix2 r c)
      = simD (fun d => p (ix2 r d)) (fun d => w (ix2 c d)) := by
  refine (StackMember.dotGeneral_plain_apply none _ _ r c).trans (Finset.sum_congr rfl fun d _ => ?_)
  rw [unitRows_apply, transpose_ix2_apply, unitRows_apply]

/-- A comparison `> 0` that came out true, at the exact values. -/
theorem pos_of_cmpf (x : Ideal .f32) (h : FloatOps.cmpf (F := Ideal) (φ := .f32) .ogt x (Ideal.ofBits .f32 0x00000000#32) = 1#1) : (0 : EReal) < x := by
  rw [Ideal.ofBits_zero_f32] at h
  have h2 : BitVec.ofBool (decide ((0 : EReal) < x)) = 1#1 := h
  by_contra hn
  rw [decide_eq_false hn] at h2
  exact absurd h2 (by decide)

/-- A conjunction of two bits that came out true has both bits true. -/
theorem and_bits (a b : BitVec 1) (h : a &&& b = 1#1) : a = 1#1 ∧ b = 1#1 := by
  revert a b; decide

/-- Where the mask is set, both rows have a positive sum of squares. -/
theorem mask_pos [Cert.On_nonzero_rows.Facts] (p : FVec Ideal S1024x16 .f32) (q : IVec S1024 32) (w : FVec Ideal S100000x16 .f32)
    (r : Fin 1024) (c : Fin 100000) (h : (Cert.On_nonzero_rows.fn (F := Ideal) p q w).2.1 (ix2 r c) = 1#1) :
    (0 : EReal) < ∑ d : Fin 16, p (ix2 r d) * p (ix2 r d) ∧ (0 : EReal) < ∑ d : Fin 16, w (ix2 c d) * w (ix2 c d) := by
  have h' := and_bits _ _ (show (broadcastInDim _ _ _ _ (ix2 r c) : BitVec 1) &&& broadcastInDim _ _ _ _ (ix2 r c) = 1#1 from h)
  rw [column_apply, asColumn_apply, row_apply, asRow_apply] at h'
  obtain ⟨h1, h2⟩ := h'
  exact ⟨(pos_of_cmpf _ h1).trans_eq (hostRowSum_apply _ _ _ r), (pos_of_cmpf _ h2).trans_eq (hostRowSum_apply _ _ _ c)⟩

/-- The mask selects nothing of the three scalar results. -/
theorem mask_scalars [Cert.On_nonzero_rows.Facts] (p : FVec Ideal S1024x16 .f32) (q : IVec S1024 32) (w : FVec Ideal S100000x16 .f32) (i : S_.Idx) :
    (Cert.On_nonzero_rows.fn (F := Ideal) p q w).1 i ≠ 1#1 ∧ (Cert.On_nonzero_rows.fn (F := Ideal) p q w).2.2.1 i ≠ 1#1
      ∧ (Cert.On_nonzero_rows.fn (F := Ideal) p q w).2.2.2 i ≠ 1#1 :=
  have off : (0#1 : BitVec 1) ≠ 1#1 := by decide
  ⟨off, off, off⟩

end Cert.ReferenceIdeal.Sim
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_nonzero_rows
public import proofs.«01_k».proof.Proof.Frame.Kernel
public import proofs.«01_k».proof.Proof.Sim.Final
public import proofs.«01_k».proof.Proof.Sim.Ref
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.ValueIdx Cert.Kernel

theorem frame_kernel : Cert.quiescent_Kernel := fun m ρ _ => Cert.Kernel.Run.frame_run m ρ

theorem frame_kernel_ideal : Cert.quiescent_KernelIdeal := fun m ρ _ =>
  (θ_run _ _ _).mono (fun _ h => ⟨fun c => (h.1 c).2, h.2⟩) (Cert.KernelIdeal.Sim.run_value m ρ)

theorem frame_reference_ideal : Cert.quiescent_ReferenceIdeal := fun m ρ _ =>
  (θ_run _ _ _).mono (fun r h => ⟨fun c => (h c).2.2.2.2, Idealize.ShloMosaic.sem_eq_zero_of_no_sems (by decide) r.2⟩)
    (Cert.ReferenceIdeal.Value.run (F := Ideal) m ρ)

/-- Where both rows have a positive length, the kernel's array of similarities is the reference's.
    Of the three scalars nothing is selected, so any values do for them. -/
theorem algebraic : Cert.algebraic_KernelIdeal_ReferenceIdeal_on_nonzero_rows := by
  intro m ρ m' ρ' _ hagree
  have off := fun c : Dev Cert.KernelIdeal.nD => Cert.ReferenceIdeal.Sim.mask_scalars
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
  refine ⟨fun _ _ => (0 : EReal), fun c => Cert.KernelIdeal.Sim.simAll _ _, fun _ _ => (0 : EReal), fun _ _ => (0 : EReal),
    (θ_run _ _ _).mono (fun _ h c => ⟨fun i hi => absurd hi (off c i).1, fun i _ => congrFun (h.1 c).1 i,
      fun i hi => absurd hi (off c i).2.1, fun i hi => absurd hi (off c i).2.2, (h.1 c).2⟩) (Cert.KernelIdeal.Sim.run_value m ρ),
    (θ_run _ _ _).mono (fun _ h c => ⟨fun i hi => absurd hi (off c i).1, fun i hi => ?_,
      fun i hi => absurd hi (off c i).2.1, fun i hi => absurd hi (off c i).2.2, (h c).2.2.2.2⟩) (Cert.ReferenceIdeal.Value.run (F := Ideal) m' ρ')⟩
  obtain ⟨r, n, rfl⟩ : ∃ r n, i = ix2 (n0 := 1024) (n1 := 100000) r n := ⟨_, _, eq_ix2 i⟩
  obtain ⟨hp, hw⟩ := Cert.ReferenceIdeal.Sim.mask_pos _ _ _ r n hi
  refine (congrFun (h c).2.1 _).trans ((Cert.ReferenceIdeal.Sim.sims_apply _ _ r n).trans ?_)
  unfold StableHlo.launchContents
  rw [show m' (c, Proc.devRef .tc Cert.ReferenceIdeal.main_arg0) = _ from (hagree c).1,
    show m' (c, Proc.devRef .tc Cert.ReferenceIdeal.main_arg2) = _ from (hagree c).2.2]
  exact (Cert.ReferenceIdeal.Sim.simR_eq _ _ hp hw).symm

theorem claim : Cert.Claim := ⟨Cert.Kernel.Gen.facts, Cert.KernelIdeal.Gen.facts, Cert.ReferenceIdeal.Gen.facts, Cert.On_nonzero_rows.Gen.facts,
  frame_kernel, frame_kernel_ideal, frame_reference_ideal, trivial, algebraic⟩

end Cert.Proof

end
